-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S16384 : Shape := ⟨1, ![16384]⟩
abbrev S16384x1 : Shape := ⟨2, ![16384, 1]⟩
abbrev S16384x3x10 : Shape := ⟨3, ![16384, 3, 10]⟩
abbrev S10x64 : Shape := ⟨2, ![10, 64]⟩
abbrev S3x64 : Shape := ⟨2, ![3, 64]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S16384 : S_.BroadcastsInDim S16384 (![] : Fin 0 → Fin S16384.rank)
  bcast_S_S16384x1 : S_.BroadcastsInDim S16384x1 (![] : Fin 0 → Fin S16384x1.rank)
  bcast_S_S16384x3x10 : S_.BroadcastsInDim S16384x3x10 (![] : Fin 0 → Fin S16384x3x10.rank)
  bcast_S_S64 : S_.BroadcastsInDim S64 (![] : Fin 0 → Fin S64.rank)

variable [Facts]

def fn_part1 {F : FTy → Type} [FloatOps F] (main_arg11 : FVec F S64 .f32) (main_arg15 : FVec F S64 .f32) (main_v4 : IVec S16384 1) (main_v7 : IVec S16384x1 1) (main_v10 : IVec S16384x1 1) (main_v13 : IVec S16384x3x10 1) (main_v15 : IVec S64 1) (main_v16 : FVec F S64 .f32) : IVec S16384 1 × IVec S16384x1 1 × IVec S16384x1 1 × IVec S16384x3x10 1 × IVec S64 1 × IVec S64 1 × IVec S64 1 :=
  let main_v17 : IVec S64 1 := cmpf .oeq main_arg11 main_v16
  let main_cst_5 : FVec F S_ .f32 := constant S_ .f32 0x00000000#32
  let main_v18 : FVec F S64 .f32 := broadcastInDim S64 ![] bcast_S_S64 main_cst_5
  let main_v19 : IVec S64 1 := cmpf .oeq main_arg15 main_v18
  (main_v4, main_v7, main_v10, main_v13, main_v15, main_v17, main_v19)

def fn {F : FTy → Type} [FloatOps F] (main_arg0 : IVec S16384 32) (main_arg1 : FVec F S16384x1 .f32) (main_arg2 : FVec F S16384x1 .f32) (main_arg3 : FVec F S16384x3x10 .f32) (main_arg4 : FVec F S10x64 .f32) (main_arg5 : FVec F S3x64 .f32) (main_arg6 : FVec F S1x64 .f32) (main_arg7 : FVec F S64 .f32) (main_arg8 : FVec F S64x64 .f32) (main_arg9 : FVec F S64 .f32) (main_arg10 : FVec F S1x64 .f32) (main_arg11 : FVec F S64 .f32) (main_arg12 : FVec F S64x64 .f32) (main_arg13 : FVec F S64 .f32) (main_arg14 : FVec F S1x64 .f32) (main_arg15 : FVec F S64 .f32) (main_arg16 : FVec F S64x64 .f32) (main_arg17 : FVec F S64 .f32) : IVec S16384 1 × IVec S16384x1 1 × IVec S16384x1 1 × IVec S16384x3x10 1 × IVec S64 1 × IVec S64 1 × IVec S64 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 3#32
  let main_v2 : IVec S16384 32 := broadcastInDim S16384 ![] bcast_S_S16384 main_c_0
  let main_v3 : IVec S16384 1 := cmpi .slt main_arg0 main_v2
  let main_v4 : IVec S16384 1 := andi main_v1 main_v3
  let main_v5 : FVec F S16384x1 .f32 := Host.absf main_arg1
  let main_cst : FVec F S_ .f32 := constant S_ .f32 0x7F800000#32
  let main_v6 : FVec F S16384x1 .f32 := broadcastInDim S16384x1 ![] bcast_S_S16384x1 main_cst
  let main_v7 : IVec S16384x1 1 := cmpf .olt main_v5 main_v6
  let main_v8 : FVec F S16384x1 .f32 := Host.absf main_arg2
  let main_cst_1 : FVec F S_ .f32 := constant S_ .f32 0x7F800000#32
  let main_v9 : FVec F S16384x1 .f32 := broadcastInDim S16384x1 ![] bcast_S_S16384x1 main_cst_1
  let main_v10 : IVec S16384x1 1 := cmpf .olt main_v8 main_v9
  let main_v11 : FVec F S16384x3x10 .f32 := Host.absf main_arg3
  let main_cst_2 : FVec F S_ .f32 := constant S_ .f32 0x7F800000#32
  let main_v12 : FVec F S16384x3x10 .f32 := broadcastInDim S16384x3x10 ![] bcast_S_S16384x3x10 main_cst_2
  let main_v13 : IVec S16384x3x10 1 := cmpf .olt main_v11 main_v12
  let main_cst_3 : FVec F S_ .f32 := constant S_ .f32 0x00000000#32
  let main_v14 : FVec F S64 .f32 := broadcastInDim S64 ![] bcast_S_S64 main_cst_3
  let main_v15 : IVec S64 1 := cmpf .oeq main_arg7 main_v14
  let main_cst_4 : FVec F S_ .f32 := constant S_ .f32 0x00000000#32
  let main_v16 : FVec F S64 .f32 := broadcastInDim S64 ![] bcast_S_S64 main_cst_4
  fn_part1 (F := F) main_arg11 main_arg15 main_v4 main_v7 main_v10 main_v13 main_v15 main_v16
-- ==== Kernel.lean ====
abbrev S16384 : Shape := ⟨1, ![16384]⟩
abbrev S16384x1 : Shape := ⟨2, ![16384, 1]⟩
abbrev S16384x3x10 : Shape := ⟨3, ![16384, 3, 10]⟩
abbrev S10x64 : Shape := ⟨2, ![10, 64]⟩
abbrev S3x64 : Shape := ⟨2, ![3, 64]⟩
abbrev S1x64 : Shape := ⟨2, ![1, 64]⟩
abbrev S64 : Shape := ⟨1, ![64]⟩
abbrev S64x64 : Shape := ⟨2, ![64, 64]⟩
abbrev S1x16384 : Shape := ⟨2, ![1, 16384]⟩
abbrev S10x3x16384 : Shape := ⟨3, ![10, 3, 16384]⟩
abbrev S23x64x16384 : Shape := ⟨3, ![23, 64, 16384]⟩
abbrev S1x1024 : Shape := ⟨2, ![1, 1024]⟩
abbrev S10x3x1024 : Shape := ⟨3, ![10, 3, 1024]⟩
abbrev S23x64x1024 : Shape := ⟨3, ![23, 64, 1024]⟩
abbrev S64x10 : Shape := ⟨2, ![64, 10]⟩
abbrev S64x3 : Shape := ⟨2, ![64, 3]⟩
abbrev S64x1 : Shape := ⟨2, ![64, 1]⟩
abbrev S64x1024 : Shape := ⟨2, ![64, 1024]⟩
abbrev S1x64x1024 : Shape := ⟨3, ![1, 64, 1024]⟩
abbrev S1x3x1024 : Shape := ⟨3, ![1, 3, 1024]⟩
abbrev S3x1024 : Shape := ⟨2, ![3, 1024]⟩
abbrev S16384x23x64 : Shape := ⟨3, ![16384, 23, 64]⟩

abbrev nBuf : Space → Nat
  | .hbm => 27
  | .vmem => 21
  | .smem => 0
  | _ => 0

abbrev bufTy : (tb : Table) → Fin (tcTables nBuf tb) → BufTy
  | .hbm, ⟨0, _⟩ => ⟨S16384, .i32⟩
  | .hbm, ⟨1, _⟩ => ⟨S16384x1, .f32⟩
  | .hbm, ⟨2, _⟩ => ⟨S16384x1, .f32⟩
  | .hbm, ⟨3, _⟩ => ⟨S16384x3x10, .f32⟩
  | .hbm, ⟨4, _⟩ => ⟨S10x64, .f32⟩
  | .hbm, ⟨5, _⟩ => ⟨S3x64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S1x16384, .i32⟩
  | .hbm, ⟨19, _⟩ => ⟨S1x16384, .f32⟩
  | .hbm, ⟨20, _⟩ => ⟨S1x16384, .f32⟩
  | .hbm, ⟨21, _⟩ => ⟨S10x3x16384, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S23x64x16384, .f32⟩
  | .hbm, ⟨26, _⟩ => ⟨S16384x23x64, .f32⟩
  | .local _ .vmem, ⟨0, _⟩ => ⟨S1x1024, .i32⟩
  | .local _ .vmem, ⟨1, _⟩ => ⟨S1x1024, .i32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S10x3x1024, .f32⟩
  | .local _ .vmem, ⟨7, _⟩ => ⟨S10x3x1024, .f32⟩
  | .local _ .vmem, ⟨8, _⟩ => ⟨S10x64, .f32⟩
  | .local _ .vmem, ⟨9, _⟩ => ⟨S3x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S23x64x1024, .f32⟩
  | .local _ .vmem, ⟨20, _⟩ => ⟨S23x64x1024, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S23x64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16384 : Shape := ⟨1, ![16384]⟩
abbrev S16384x1 : Shape := ⟨2, ![16384, 1]⟩
abbrev S16384x3x10 : Shape := ⟨3, ![16384, 3, 10]⟩
abbrev S10x64 : Shape := ⟨2, ![10, 64]⟩
abbrev S3x64 : Shape := ⟨2, ![3, 64]⟩
abbrev S1x64 : Shape := ⟨2, ![1, 64]⟩
abbrev S64 : Shape := ⟨1, ![64]⟩
abbrev S64x64 : Shape := ⟨2, ![64, 64]⟩
abbrev S_ : Shape := ⟨0, ![]⟩
abbrev S1 : Shape := ⟨1, ![1]⟩
abbrev S1x1 : Shape := ⟨2, ![1, 1]⟩
abbrev S16384x64 : Shape := ⟨2, ![16384, 64]⟩
abbrev S1x10x64 : Shape := ⟨3, ![1, 10, 64]⟩
abbrev S16384x10x64 : Shape := ⟨3, ![16384, 10, 64]⟩
abbrev S16384x1x1 : Shape := ⟨3, ![16384, 1, 1]⟩
abbrev S16384x1x10 : Shape := ⟨3, ![16384, 1, 10]⟩
abbrev S16384x1x10x1 : Shape := ⟨4, ![16384, 1, 10, 1]⟩
abbrev S1x1x1x1 : Shape := ⟨4, ![1, 1, 1, 1]⟩
abbrev S16384x10 : Shape := ⟨2, ![16384, 10]⟩
abbrev S16384x10x1 : Shape := ⟨3, ![16384, 10, 1]⟩
abbrev S1x1x64 : Shape := ⟨3, ![1, 1, 64]⟩
abbrev S16384x1x64 : Shape := ⟨3, ![16384, 1, 64]⟩
abbrev S16384x23x64 : Shape := ⟨3, ![16384, 23, 64]⟩

abbrev nBuf : Space → Nat
  | .hbm => 109
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1, .f32⟩
  | .hbm, ⟨2, _⟩ => ⟨S16384x1, .f32⟩
  | .hbm, ⟨3, _⟩ => ⟨S16384x3x10, .f32⟩
  | .hbm, ⟨4, _⟩ => ⟨S10x64, .f32⟩
  | .hbm, ⟨5, _⟩ => ⟨S3x64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S1, .i32⟩
  | .hbm, ⟨27, _⟩ => ⟨S_, .i32⟩
  | .hbm, ⟨28, _⟩ => ⟨S16384x1, .i32⟩
  | .hbm, ⟨29, _⟩ => ⟨S16384x1, .i1⟩
  | .hbm, ⟨30, _⟩ => ⟨S1x1, .i32⟩
  | .hbm, ⟨31, _⟩ => ⟨S16384x1, .i32⟩
  | .hbm, ⟨32, _⟩ => ⟨S16384x1, .i1⟩
  | .hbm, ⟨33, _⟩ => ⟨S16384x1, .i1⟩
  | .hbm, ⟨34, _⟩ => ⟨S_, .i1⟩
  | .hbm, ⟨35, _⟩ => ⟨S16384, .i1⟩
  | .hbm, ⟨36, _⟩ => ⟨S16384x64, .f32⟩
  | .hbm, ⟨37, _⟩ => ⟨S16384x64, .i1⟩
  | .hbm, ⟨38, _⟩ => ⟨S_, .f32⟩
  | .hbm, ⟨39, _⟩ => ⟨S16384x64, .f32⟩
  | .hbm, ⟨40, _⟩ => ⟨S16384x64, .f32⟩
  | .hbm, ⟨41, _⟩ => ⟨S1x10x64, .f32⟩
  | .hbm, ⟨42, _⟩ => ⟨S16384x10x64, .f32⟩
  | .hbm, ⟨43, _⟩ => ⟨S16384x64, .f32⟩
  | .hbm, ⟨44, _⟩ => ⟨S1x64, .f32⟩
  | .hbm, ⟨45, _⟩ => ⟨S16384x64, .f32⟩
  | .hbm, ⟨46, _⟩ => ⟨S16384x64, .f32⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S1x64, .f32⟩
  | .hbm, ⟨52, _⟩ => ⟨S16384x64, .f32⟩
  | .hbm, ⟨53, _⟩ => ⟨S16384x64, .f32⟩
  | .hbm, ⟨54, _⟩ => ⟨S16384x64, .f32⟩
  | .hbm, ⟨55, _⟩ => ⟨S1x64, .f32⟩
  | .hbm, ⟨56, _⟩ => ⟨S16384x64, .f32⟩
  | .hbm, ⟨57, _⟩ => ⟨S16384x64, .f32⟩
  | .hbm, ⟨58, _⟩ => ⟨S_, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S16384x1x1, .i32⟩
  | .hbm, ⟨66, _⟩ => ⟨S16384x1x10, .i32⟩
  | .hbm, ⟨67, _⟩ => ⟨S_, .i32⟩
  | .hbm, ⟨68, _⟩ => ⟨S16384x1x10, .i32⟩
  | .hbm, ⟨69, _⟩ => ⟨S16384x1x10, .i1⟩
  | .hbm, ⟨70, _⟩ => ⟨S_, .i32⟩
  | .hbm, ⟨71, _⟩ => ⟨S16384x1x10, .i32⟩
  | .hbm, ⟨72, _⟩ => ⟨S16384x1x10, .i32⟩
  | .hbm, ⟨73, _⟩ => ⟨S16384x1x10, .i32⟩
  | .hbm, ⟨74, _⟩ => ⟨S16384x1x10x1, .i32⟩
  | .hbm, ⟨75, _⟩ => ⟨S1, .i32⟩
  | .hbm, ⟨76, _⟩ => ⟨S_, .i32⟩
  | .hbm, ⟨77, _⟩ => ⟨S16384x1x10x1, .i32⟩
  | .hbm, ⟨78, _⟩ => ⟨S16384x1x10x1, .i1⟩
  | .hbm, ⟨79, _⟩ => ⟨S1x1x1x1, .i32⟩
  | .hbm, ⟨80, _⟩ => ⟨S16384x1x10x1, .i32⟩
  | .hbm, ⟨81, _⟩ => ⟨S16384x1x10x1, .i1⟩
  | .hbm, ⟨82, _⟩ => ⟨S16384x1x10x1, .i1⟩
  | .hbm, ⟨83, _⟩ => ⟨S_, .i1⟩
  | .hbm, ⟨84, _⟩ => ⟨S16384x1x10, .i1⟩
  | .hbm, ⟨85, _⟩ => ⟨S16384x1x10, .f32⟩
  | .hbm, ⟨86, _⟩ => ⟨S_, .f32⟩
  | .hbm, ⟨87, _⟩ => ⟨S16384x1x10, .f32⟩
  | .hbm, ⟨88, _⟩ => ⟨S16384x1x10, .f32⟩
  | .hbm, ⟨89, _⟩ => ⟨S16384x10, .f32⟩
  | .hbm, ⟨90, _⟩ => ⟨S16384x10x1, .f32⟩
  | .hbm, ⟨91, _⟩ => ⟨S16384x10x64, .f32⟩
  | .hbm, ⟨92, _⟩ => ⟨S1x1x64, .f32⟩
  | .hbm, ⟨93, _⟩ => ⟨S16384x10x64, .f32⟩
  | .hbm, ⟨94, _⟩ => ⟨S16384x10x64, .f32⟩
  | .hbm, ⟨95, _⟩ => ⟨S_, .f32⟩
  | .hbm, ⟨96, _⟩ => ⟨S16384x10x64, .f32⟩
  | .hbm, ⟨97, _⟩ => ⟨S16384x10x64, .f32⟩
  | .hbm, ⟨98, _⟩ => ⟨S16384x10x64, .f32⟩
  | .hbm, ⟨99, _⟩ => ⟨S1x1x64, .f32⟩
  | .hbm, ⟨100, _⟩ => ⟨S16384x10x64, .f32⟩
  | .hbm, ⟨101, _⟩ => ⟨S16384x10x64, .f32⟩
  | .hbm, ⟨102, _⟩ => ⟨S16384x1x64, .f32⟩
  | .hbm, ⟨103, _⟩ => ⟨S16384x1x64, .f32⟩
  | .hbm, ⟨104, _⟩ => ⟨S16384x1x64, .f32⟩
  | .hbm, ⟨105, _⟩ => ⟨S16384x23x64, .f32⟩
  | .hbm, ⟨106, _⟩ => ⟨S_, .f32⟩
  | .hbm, ⟨107, _⟩ => ⟨S16384x23x64, .f32⟩
  | .hbm, ⟨108, _⟩ => ⟨S16384x23x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_call1_cst : Ref sig .tc := ⟨.hbm, 47, rfl⟩
abbrev main_call1_v0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_call2_cst : Ref sig .tc := ⟨.hbm, 58, rfl⟩
abbrev main_call2_v0 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_cst : Ref sig .tc := ⟨.hbm, 86, rfl⟩
abbrev main_call3_v14 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_call4_cst : Ref sig .tc := ⟨.hbm, 95, rfl⟩
abbrev main_call4_v0 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst : Ref sig .tc := ⟨.hbm, 106, rfl⟩
abbrev main_v39 : Ref sig .tc := ⟨.hbm, 107, rfl⟩
abbrev main_v40 : Ref sig .tc := ⟨.hbm, 108, rfl⟩

abbrev nD : Nat := 1
abbrev τ : Topo := Topo.v7x

variable {F : FTy → Type} [FloatOps F]
-- ==== Proof.Hinge.lean ====
/-
  The mathematics of the kernel's identity, over the extended reals. A two-layer network of one real input `x`, whose
  first layer has no bias, is `Σ_k max (x·w_k) 0 · v_k + b`. Where `x ≥ 0` every term is `x · (max w_k 0 · v_k)`, and where
  `x < 0` it is `(-x) · (max (-w_k) 0 · v_k)`; so the network is `P · max x 0 + M · max (-x) 0 + b`, with `P` and `M` two
  numbers that do not depend on `x`. Nothing is asked of the weights: they may be infinite.
-/
module

public import Mathlib.Data.EReal.Operations
public import Mathlib.Data.EReal.Inv
public import Mathlib.Algebra.BigOperators.Fin

@[expose] public section

noncomputable section

namespace Cert.Hinge

open scoped BigOperators

variable {K : Type} [Fintype K]

/-- The network at the input `x`: first-layer weights `w` without bias, the rectifier, second-layer weights `v`, bias `b`. -/
def network (x : EReal) (w v : K → EReal) (b : EReal) : EReal := (∑ k, max (x * w k) 0 * v k) + b

/-- The same network by its two slopes, every term carrying the factor `c`. -/
def slopes (c x : EReal) (w v : K → EReal) (b : EReal) : EReal :=
  (∑ k, v k * max (w k) 0) * c * max x 0 + (∑ k, v k * max (-w k) 0) * c * max (-x) 0 + b * c

/-- A factor that is neither negative nor `⊤` goes into a finite sum. -/
theorem mul_sum_of_nonneg {x : EReal} (h0 : 0 ≤ x) (ht : x ≠ ⊤) (f : K → EReal) : x * ∑ k, f k = ∑ k, x * f k := by
  classical
  induction (Finset.univ : Finset K) using Finset.induction_on with
  | empty => simp
  | insert a s ha ih => rw [Finset.sum_insert ha, Finset.sum_insert ha, EReal.left_distrib_of_nonneg_of_ne_top h0 ht, ih]

/-- The rectifier of a product by a factor that is not negative. -/
theorem max_mul_of_nonneg {x : EReal} (h0 : 0 ≤ x) (w : EReal) : max (x * w) 0 = x * max w 0 := by
  rcases le_total w 0 with h | h
  · rw [max_eq_right h, mul_zero, max_eq_right (EReal.mul_nonpos_iff.2 (Or.inl ⟨h0, h⟩))]
  · rw [max_eq_left h, max_eq_left (EReal.mul_nonneg h0 h)]

/-- The network's sum at an input that is neither negative nor `⊤`: one slope times the input. -/
theorem sum_of_nonneg {x : EReal} (h0 : 0 ≤ x) (ht : x ≠ ⊤) (w v : K → EReal) :
    ∑ k, max (x * w k) 0 * v k = (∑ k, v k * max (w k) 0) * x := by
  rw [mul_comm, mul_sum_of_nonneg h0 ht]
  exact Finset.sum_congr rfl fun k _ => by rw [max_mul_of_nonneg h0, mul_assoc, mul_comm (v k)]

/-- THE IDENTITY: at a finite input, the network times `c` is its form by slopes, `c` a factor neither negative nor `⊤`. -/
theorem slopes_eq {c x : EReal} (c0 : 0 ≤ c) (ct : c ≠ ⊤) (hb : x ≠ ⊥) (ht : x ≠ ⊤) (w v : K → EReal) (b : EReal) :
    slopes c x w v b = network x w v b * c := by
  unfold slopes network
  rw [mul_comm (_ + b) c, EReal.left_distrib_of_nonneg_of_ne_top c0 ct, mul_comm c b]
  refine congrArg (· + b * c) ?_
  rcases le_total 0 x with h | h
  · have hn : max (-x) 0 = 0 := max_eq_right (by simpa using EReal.neg_le_neg_iff.2 h)
    rw [hn, mul_zero, add_zero, max_eq_left h, sum_of_nonneg h ht, mul_comm c, mul_right_comm]
  · have h' : 0 ≤ -x := by simpa using EReal.neg_le_neg_iff.2 h
    have ht' : -x ≠ ⊤ := fun e => hb (by simpa using congrArg Neg.neg e)
    have hs : ∑ k, max (x * w k) 0 * v k = ∑ k, max (-x * -w k) 0 * v k :=
      Finset.sum_congr rfl fun k _ => by rw [neg_mul_neg]
    rw [max_eq_right h, mul_zero, zero_add, max_eq_left h', hs, sum_of_nonneg h' ht' (fun k => -w k), mul_comm c,
      mul_right_comm]

end Cert.Hinge

end
-- ==== Proof.Entry.lean ====
/-
  One entry of the result, as the kernel writes it and as the reference defines it: both as functions of the weights, of
  what the batch column holds (the worker's index, the two fatigue values, the ten rows of three coefficients), of the row
  `r < 23` of the result and of the hidden coordinate `h < 64`. On a column whose index names a row of the table and whose
  values are finite the two are one number (`entry_eq`).
-/
module

public import proofs.«01_k».proof.Proof.Hinge

@[expose] public section

noncomputable section

namespace Cert.Entry

open Cert.Hinge

/-- The tables and the second-layer parameters, with the first-layer weights. -/
structure Weights where
  /-- The table of ten actions. -/
  act : Fin 10 → Fin 64 → EReal
  /-- The table of three workers. -/
  wt : Fin 3 → Fin 64 → EReal
  /-- The first network: first-layer weights, second-layer weights (by input, then output), second-layer bias. -/
  p1 : Fin 64 → EReal
  p2 : Fin 64 → Fin 64 → EReal
  pb : Fin 64 → EReal
  /-- The second network. -/
  s1 : Fin 64 → EReal
  s2 : Fin 64 → Fin 64 → EReal
  sb : Fin 64 → EReal
  /-- The third network. -/
  c1 : Fin 64 → EReal
  c2 : Fin 64 → Fin 64 → EReal
  cb : Fin 64 → EReal

/-- What one batch column holds. -/
structure Column where
  /-- The worker's index. -/
  idx : BitVec 32
  /-- The physical fatigue. -/
  phy : EReal
  /-- The psychological fatigue. -/
  psy : EReal
  /-- The coefficients, by coefficient and then by worker. -/
  coe : Fin 10 → Fin 3 → EReal

/-- The kernel's selection among three values: the third at every index but 0 and 1. -/
def pick {α : Type} (i : BitVec 32) (f : Fin 3 → α) : α := if i = 0#32 then f 0 else if i = 1#32 then f 1 else f 2

/-- The coefficient of a row: rows 13 to 22 are the coefficients 0 to 9. -/
abbrev coeOf (r : ℕ) : Fin 10 := ⟨(r - 13) % 10, Nat.mod_lt _ (by decide)⟩

/-- The action of a row: rows 0 to 9. -/
abbrev actOf (r : ℕ) : Fin 10 := ⟨r % 10, Nat.mod_lt _ (by decide)⟩

/-- The entry as the kernel computes it: every row scaled by `c`, the networks by their slopes. -/
def kernelEntry (c : EReal) (W : Weights) (x : Column) (r : ℕ) (h : Fin 64) : EReal :=
  if r < 10 then W.act (actOf r) h * c
  else if r = 10 then slopes c x.phy W.p1 (fun k => W.p2 k h) (W.pb h)
  else if r = 11 then slopes c x.psy W.s1 (fun k => W.s2 k h) (W.sb h)
  else if r = 12 then pick x.idx (fun j => W.wt j h * c)
  else slopes c (pick x.idx (x.coe (coeOf r))) W.c1 (fun k => W.c2 k h) (W.cb h)

/-- The entry as the reference defines it, the scale `c` last. -/
def refEntry (c : EReal) (W : Weights) (x : Column) (r : ℕ) (h : Fin 64) : EReal :=
  (if r < 10 then W.act (actOf r) h
  else if r = 10 then network x.phy W.p1 (fun k => W.p2 k h) (W.pb h)
  else if r = 11 then network x.psy W.s1 (fun k => W.s2 k h) (W.sb h)
  else if r = 12 then pick x.idx (fun j => W.wt j h)
  else network (pick x.idx (x.coe (coeOf r))) W.c1 (fun k => W.c2 k h) (W.cb h)) * c

/-- A selection among values scaled alike is the selection, scaled. -/
theorem pick_mul (i : BitVec 32) (f : Fin 3 → EReal) (c : EReal) : pick i (fun j => f j * c) = pick i f * c := by
  unfold pick; split_ifs <;> rfl

/-- A property of all three values is one of the selected value. -/
theorem pick_of_forall {α : Type} {p : α → Prop} (i : BitVec 32) (f : Fin 3 → α) (h : ∀ j, p (f j)) : p (pick i f) := by
  unfold pick; split_ifs <;> exact h _

/-- A column holds finite values. -/
structure Column.Finite (x : Column) : Prop where
  phy : x.phy ≠ ⊥ ∧ x.phy ≠ ⊤
  psy : x.psy ≠ ⊥ ∧ x.psy ≠ ⊤
  coe : ∀ a j, x.coe a j ≠ ⊥ ∧ x.coe a j ≠ ⊤

/-- On a column of finite values the kernel's entry is the reference's. -/
theorem entry_eq {c : EReal} (c0 : 0 ≤ c) (ct : c ≠ ⊤) (W : Weights) {x : Column} (hx : x.Finite) (r : ℕ) (h : Fin 64) :
    kernelEntry c W x r h = refEntry c W x r h := by
  unfold kernelEntry refEntry
  split_ifs
  · rfl
  · exact slopes_eq c0 ct hx.phy.1 hx.phy.2 _ _ _
  · exact slopes_eq c0 ct hx.psy.1 hx.psy.2 _ _ _
  · exact pick_mul _ _ _
  · have hp := pick_of_forall (p := fun v => v ≠ ⊥ ∧ v ≠ ⊤) x.idx (x.coe (coeOf r)) (hx.coe _)
    exact slopes_eq c0 ct hp.1 hp.2 _ _ _

end Cert.Entry

end
-- ==== Proof.Args.lean ====
/-
  The weights and the batch's columns, read off the eighteen argument arrays.
-/
module

public import proofs.«01_k».proof.Proof.Entry
public import proofs.«01_k».proof.KernelIdeal
public import Idealize.ShloMosaic.Lib.Pointwise

@[expose] public section

noncomputable section

namespace Cert.Args

open Cert.KernelIdeal Idealize.ShloMosaic Cert.Entry

/-- The tables, the first-layer weights and the second layers. -/
def weights (a4 : Vec Ideal S10x64 .f32) (a5 : Vec Ideal S3x64 .f32) (a6 : Vec Ideal S1x64 .f32) (a8 : Vec Ideal S64x64 .f32)
    (a9 : Vec Ideal S64 .f32) (a10 : Vec Ideal S1x64 .f32) (a12 : Vec Ideal S64x64 .f32) (a13 : Vec Ideal S64 .f32)
    (a14 : Vec Ideal S1x64 .f32) (a16 : Vec Ideal S64x64 .f32) (a17 : Vec Ideal S64 .f32) : Weights where
  act a h := a4 (ix2 a h)
  wt j h := a5 (ix2 j h)
  p1 k := a6 (ix2 0 k)
  p2 k h := a8 (ix2 k h)
  pb h := a9 (ix1 h)
  s1 k := a10 (ix2 0 k)
  s2 k h := a12 (ix2 k h)
  sb h := a13 (ix1 h)
  c1 k := a14 (ix2 0 k)
  c2 k h := a16 (ix2 k h)
  cb h := a17 (ix1 h)

/-- Column `b` of the batch. -/
def column (a0 : Vec Ideal S16384 .i32) (a1 a2 : Vec Ideal S16384x1 .f32) (a3 : Vec Ideal S16384x3x10 .f32) (b : Fin 16384) :
    Column where
  idx := a0 (ix1 b)
  phy := a1 (ix2 b 0)
  psy := a2 (ix2 b 0)
  coe a j := a3 (ix3 b j a)

end Cert.Args

end
-- ==== Proof.Block.lean ====
/-
  What the kernel's body leaves in the result's block, at an index: row `r`, hidden coordinate `h`, column `l` of the
  block hold `Entry.kernelEntry` of the weights and of what column `l` of the input blocks holds.
-/
module

public import proofs.«01_k».proof.Proof.Entry
public import proofs.«01_k».proof.Proof.Gen.KernelIdeal.Frame
public import Idealize.ShloMosaic.Lib.Pointwise
public import Idealize.ShloMosaic.Lib.Pipeline.Value

@[expose] public section

noncomputable section

namespace Cert.KernelIdeal.Block

open Cert.KernelIdeal Cert.KernelIdeal.Gen Idealize.ShloMosaic Cert.Entry Cert.Hinge

/-- The scale, the float 8. -/
abbrev eight : EReal := Ideal.ofBits .f32 0x41000000#32

/-- The weights, from the blocks that hold them. -/
def weights (x4 : Vec Ideal S10x64 .f32) (x5 : Vec Ideal S3x64 .f32) (x6 : Vec Ideal S1x64 .f32) (x7 : Vec Ideal S64x64 .f32)
    (x8 : Vec Ideal S1x64 .f32) (x9 : Vec Ideal S1x64 .f32) (x10 : Vec Ideal S64x64 .f32) (x11 : Vec Ideal S1x64 .f32)
    (x12 : Vec Ideal S1x64 .f32) (x13 : Vec Ideal S64x64 .f32) (x14 : Vec Ideal S1x64 .f32) : Weights where
  act a h := x4 (ix2 a h)
  wt j h := x5 (ix2 j h)
  p1 k := x6 (ix2 0 k)
  p2 k h := x7 (ix2 k h)
  pb h := x8 (ix2 0 h)
  s1 k := x9 (ix2 0 k)
  s2 k h := x10 (ix2 k h)
  sb h := x11 (ix2 0 h)
  c1 k := x12 (ix2 0 k)
  c2 k h := x13 (ix2 k h)
  cb h := x14 (ix2 0 h)

/-- Column `l` of the input blocks. -/
def column (x0 : Vec Ideal S1x1024 .i32) (x1 x2 : Vec Ideal S1x1024 .f32) (x3 : Vec Ideal S10x3x1024 .f32) (l : Fin 1024) :
    Column where
  idx := x0 (ix2 0 l)
  phy := x1 (ix2 0 l)
  psy := x2 (ix2 0 l)
  coe a j := x3 (ix3 a j l)

/-- A selection by equality with a word is the conditional. -/
theorem select_eq_ite {α : Type} (i w : BitVec 32) (a b : α) :
    Scalar.select (IntOp.cmpi .eq i w) a b = if i = w then a else b := by
  by_cases h : i = w
  · subst h; simp [Scalar.select, IntOp.cmpi]
  · have hb : (i == w) = false := by simpa using h
    simp [Scalar.select, IntOp.cmpi, hb, h]

/-- The kernel's two selections are `pick`. -/
theorem select_eq_pick {α : Type} (i : BitVec 32) (f : Fin 3 → α) :
    Scalar.select (IntOp.cmpi .eq i 0#32) (f 0) (Scalar.select (IntOp.cmpi .eq i 1#32) (f 1) (f 2)) = pick i f := by
  rw [select_eq_ite, select_eq_ite]; rfl

/-- The slopes with `0 - a` for `-a`, the form the kernel's subtractions leave. -/
theorem slopes_sub (c x : EReal) {n : ℕ} (w v : Fin n → EReal) (b : EReal) :
    (∑ k, v k * max (w k) 0) * c * max x 0 + (∑ k, v k * max (0 - w k) 0) * c * max (0 - x) 0 + b * c = slopes c x w v b := by
  simp only [zero_sub]; rfl

/-- A literal pair of zero offsets is the zero function. -/
theorem zeros2 : (![0, 0] : Fin 2 → ℕ) = fun _ => 0 := by decide
/-- A literal triple of zero offsets is the zero function. -/
theorem zeros3 : (![0, 0, 0] : Fin 3 → ℕ) = fun _ => 0 := by decide

/-- Loads of whole blocks. -/
theorem ld_idx (x : Vec Ideal S1x1024 .i32) : View.ld x r0_0 = x := View.ld_unit_zero zeros2 _ x
/-- The whole row of columns is what a load of it reads. -/
theorem ld_row (x : Vec Ideal S1x1024 .f32) : View.ld x r0_0 = x := View.ld_unit_zero zeros2 _ x
/-- The same of the table of actions. -/
theorem ld_act (x : Vec Ideal S10x64 .f32) : View.ld x r0_1 = x := View.ld_unit_zero zeros2 _ x
/-- The same of the table of workers. -/
theorem ld_wt (x : Vec Ideal S3x64 .f32) : View.ld x r0_2 = x := View.ld_unit_zero zeros2 _ x
/-- The same of a first layer or a bias. -/
theorem ld_vec (x : Vec Ideal S1x64 .f32) : View.ld x r0_3 = x := View.ld_unit_zero zeros2 _ x
/-- The same of a second layer. -/
theorem ld_mat (x : Vec Ideal S64x64 .f32) : View.ld x r0_4 = x := View.ld_unit_zero zeros2 _ x
/-- The same of the coefficients. -/
theorem ld_coe (x : Vec Ideal S10x3x1024 .f32) : View.ld x r0_18 = x := View.ld_unit_zero zeros3 _ x

/-- The block the body leaves: its entry at every index. -/
def entries (W : Weights) (col : Fin 1024 → Column) : Vec Ideal S23x64x1024 .f32 :=
  fun y => kernelEntry eight W (col (y 2)) (y 0).val (y 1)

/-- A row stored at row `r` agrees with `entries` when it holds the entries of that row. -/
theorem row_agrees (W : Weights) (col : Fin 1024 → Column) (r : ℕ)
    (inb : ∀ a, (![r, 0, 0] : Fin 3 → ℕ) a + S1x64x1024.size a ≤ S23x64x1024.size a) (p : Vec Ideal S1x64x1024 .f32)
    (hp : ∀ (h : Fin 64) (l : Fin 1024), p (ix3 0 h l) = kernelEntry eight W (col l) r h) (x : S1x64x1024.Idx) :
    p x = entries W col ((Rect.unit (s := S23x64x1024) ![r, 0, 0] S1x64x1024.size inb).emb x) := by
  have h0 : (((Rect.unit (s := S23x64x1024) ![r, 0, 0] S1x64x1024.size inb).emb x) 0).val = r := by
    have hx : (x 0).val < 1 := (x 0).isLt
    rw [Rect.emb_apply]; show r + 1 * (x 0).val = r; omega
  have h1 : ((Rect.unit (s := S23x64x1024) ![r, 0, 0] S1x64x1024.size inb).emb x) 1 = x 1 := by
    apply Fin.ext; rw [Rect.emb_apply]; show 0 + 1 * (x 1).val = (x 1).val; omega
  have h2 : ((Rect.unit (s := S23x64x1024) ![r, 0, 0] S1x64x1024.size inb).emb x) 2 = x 2 := by
    apply Fin.ext; rw [Rect.emb_apply]; show 0 + 1 * (x 2).val = (x 2).val; omega
  have hx : x = ix3 0 (x 1) (x 2) := by
    funext a
    match a with
    | ⟨0, _⟩ => exact Fin.ext (by have := (x 0).isLt; change (x 0).val < 1 at this; show (x 0).val = 0; omega)
    | ⟨1, _⟩ => rfl
    | ⟨2, _⟩ => rfl
    | ⟨_ + 3, h⟩ => exact absurd h (by show ¬ _ + 3 < 3; omega)
  unfold entries; rw [h0, h1, h2]; exact (congrArg p hx).trans (hp (x 1) (x 2))

/-- The kernel's entry, row by row. -/
theorem entry_action {c : EReal} (W : Weights) (x : Column) (h : Fin 64) {r : ℕ} (hr : r < 10) :
    kernelEntry c W x r h = W.act (actOf r) h * c := if_pos hr

/-- Row 10 is the physical fatigue's network. -/
theorem entry_physical {c : EReal} (W : Weights) (x : Column) (h : Fin 64) :
    kernelEntry c W x 10 h = slopes c x.phy W.p1 (fun k => W.p2 k h) (W.pb h) := rfl

/-- Row 11 is the psychological fatigue's network. -/
theorem entry_psychological {c : EReal} (W : Weights) (x : Column) (h : Fin 64) :
    kernelEntry c W x 11 h = slopes c x.psy W.s1 (fun k => W.s2 k h) (W.sb h) := rfl

/-- Row 12 is the selected worker's row, scaled. -/
theorem entry_worker {c : EReal} (W : Weights) (x : Column) (h : Fin 64) :
    kernelEntry c W x 12 h = pick x.idx (fun j => W.wt j h * c) := rfl

/-- Rows from 13 on are the networks of the selected coefficients. -/
theorem entry_coefficient {c : EReal} (W : Weights) (x : Column) (h : Fin 64) {r : ℕ} (hr : 13 ≤ r) :
    kernelEntry c W x r h = slopes c (pick x.idx (x.coe (coeOf r))) W.c1 (fun k => W.c2 k h) (W.cb h) := by
  unfold kernelEntry
  rw [if_neg (by omega), if_neg (by omega), if_neg (by omega), if_neg (by omega)]

section

variable (x0 : Vec Ideal S1x1024 .i32) (x1 : Vec Ideal S1x1024 .f32) (x2 : Vec Ideal S1x1024 .f32)
  (x3 : Vec Ideal S10x3x1024 .f32) (x4 : Vec Ideal S10x64 .f32) (x5 : Vec Ideal S3x64 .f32) (x6 : Vec Ideal S1x64 .f32)
  (x7 : Vec Ideal S64x64 .f32) (x8 : Vec Ideal S1x64 .f32) (x9 : Vec Ideal S1x64 .f32) (x10 : Vec Ideal S64x64 .f32)
  (x11 : Vec Ideal S1x64 .f32) (x12 : Vec Ideal S1x64 .f32) (x13 : Vec Ideal S64x64 .f32) (x14 : Vec Ideal S1x64 .f32)

/-- The block the body leaves holds the entries. -/
theorem out_eq : out0_15 x0 x1 x2 x3 x4 x5 x6 x7 x8 x9 x10 x11 x12 x13 x14
    = entries (weights x4 x5 x6 x7 x8 x9 x10 x11 x12 x13 x14) (column x0 x1 x2 x3) := by
  funext y
  unfold_out out0_15
  refine View.canon_apply_of_pieces _ _ ?_ y (cover0_15 _ _ _ _ _ _ _ _ _ _ _ _ _ _ _ _ _ _ _ _ _ _ _ y)
  simp only [ld_idx, ld_row, ld_act, ld_wt, ld_vec, ld_mat, ld_coe]
  simp only [List.forall_mem_cons]
  refine ⟨?_, ?_, ?_, ?_, ?_, ?_, ?_, ?_, ?_, ?_, ?_, ?_, ?_, ?_, ?_, ?_, ?_, ?_, ?_, ?_, ?_, ?_, ?_, by simp⟩
  all_goals refine row_agrees _ _ _ _ _ fun h l => ?_
  iterate 10
    · rw [entry_coefficient (hr := by decide), ← slopes_sub, ← select_eq_pick]
      pointwise [k0_pay1, k0_pay2, k0_pay12, k0_pay13, k0_pay14, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49,
        k0_pay50, k0_pay51, k0_pay52, k0_pay53]
      rfl
  · rw [entry_worker, ← select_eq_pick]
    pointwise [k0_pay2, k0_pay4, k0_pay30, k0_pay31]
    rfl
  · rw [entry_psychological, ← slopes_sub]
    pointwise [k0_pay8, k0_pay9, k0_pay10, k0_pay11, k0_pay29]
    rfl
  · rw [entry_physical, ← slopes_sub]
    pointwise [k0_pay5, k0_pay6, k0_pay7, k0_pay27, k0_pay28]
    rfl
  iterate 10
    · rw [entry_action (hr := by decide)]
      pointwise [k0_pay3, k0_pay15, k0_pay16, k0_pay17, k0_pay18, k0_pay19, k0_pay20, k0_pay21, k0_pay22, k0_pay23, k0_pay24,
        k0_pay25, k0_pay26]
      rfl

end

end Cert.KernelIdeal.Block

end
-- ==== Proof.Region.lean ====
/-
  The kernel's result array: every one of the sixteen blocks holds the entries of its 1024 columns, so the whole array
  holds the entries of the 16384 columns.
-/
module

public import proofs.«01_k».proof.Proof.Args
public import proofs.«01_k».proof.Proof.Block
public import Idealize.ShloMosaic.Lib.Pipeline.ValueKit
public import Idealize.ShloMosaic.Lib.Claim

@[expose] public section

noncomputable section

namespace Cert.KernelIdeal.Region

open Cert.KernelIdeal Cert.KernelIdeal.Gen Idealize.ShloMosaic Idealize.ShloMosaic.TcCoe Idealize.SL.Sem
open Cert.Entry Cert.KernelIdeal.Block
open Idealize.ShloMosaic.Pipeline (Dat)

variable (m : (ℓ : Loc nD τ sig) → Buf (Elt Ideal) ℓ)

/-- The weights of device `c`'s arguments. -/
def wts (c : Dev nD) : Weights :=
  Args.weights (m ((c : Thread nD τ).loc main_arg4)) (m ((c : Thread nD τ).loc main_arg5)) (m ((c : Thread nD τ).loc main_arg6))
    (m ((c : Thread nD τ).loc main_arg8)) (m ((c : Thread nD τ).loc main_arg9)) (m ((c : Thread nD τ).loc main_arg10))
    (m ((c : Thread nD τ).loc main_arg12)) (m ((c : Thread nD τ).loc main_arg13)) (m ((c : Thread nD τ).loc main_arg14))
    (m ((c : Thread nD τ).loc main_arg16)) (m ((c : Thread nD τ).loc main_arg17))

/-- The columns of device `c`'s arguments. -/
def col (c : Dev nD) (b : Fin 16384) : Column :=
  Args.column (m ((c : Thread nD τ).loc main_arg0)) (m ((c : Thread nD τ).loc main_arg1)) (m ((c : Thread nD τ).loc main_arg2))
    (m ((c : Thread nD τ).loc main_arg3)) b

/-- The array of entries, row by hidden coordinate by column. -/
def array (c : Dev nD) : Vec Ideal S23x64x16384 .f32 :=
  fun y => kernelEntry eight (wts m c) (col m c (y 2)) (y 0).val (y 1)

/-- Which block each window is at, at point `t`. -/
theorem at0 : ∀ t : Fin cfg0.N, win0_0.index t = ![0, t.val] := (by decide +kernel : ∀ t : Fin grid0.N, _)
/-- At point `t`, the window of the physical fatigue: columns' block `t`. -/
theorem at1 : ∀ t : Fin cfg0.N, win0_1.index t = ![0, t.val] := (by decide +kernel : ∀ t : Fin grid0.N, _)
/-- At point `t`, the window of the psychological fatigue: columns' block `t`. -/
theorem at2 : ∀ t : Fin cfg0.N, win0_2.index t = ![0, t.val] := (by decide +kernel : ∀ t : Fin grid0.N, _)
/-- At point `t`, the window of the coefficients: columns' block `t`. -/
theorem at3 : ∀ t : Fin cfg0.N, win0_3.index t = ![0, 0, t.val] := (by decide +kernel : ∀ t : Fin grid0.N, _)
/-- At point `t`, the window of the table of actions, whole. -/
theorem at4 : ∀ t : Fin cfg0.N, win0_4.index t = ![0, 0] := (by decide +kernel : ∀ t : Fin grid0.N, _)
/-- At point `t`, the window of the table of workers, whole. -/
theorem at5 : ∀ t : Fin cfg0.N, win0_5.index t = ![0, 0] := (by decide +kernel : ∀ t : Fin grid0.N, _)
/-- At point `t`, the window of the physical network's first layer, whole. -/
theorem at6 : ∀ t : Fin cfg0.N, win0_6.index t = ![0, 0] := (by decide +kernel : ∀ t : Fin grid0.N, _)
/-- At point `t`, the window of the physical network's second layer, whole. -/
theorem at7 : ∀ t : Fin cfg0.N, win0_7.index t = ![0, 0] := (by decide +kernel : ∀ t : Fin grid0.N, _)
/-- At point `t`, the window of the physical network's bias, whole. -/
theorem at8 : ∀ t : Fin cfg0.N, win0_8.index t = ![0, 0] := (by decide +kernel : ∀ t : Fin grid0.N, _)
/-- At point `t`, the window of the psychological network's first layer, whole. -/
theorem at9 : ∀ t : Fin cfg0.N, win0_9.index t = ![0, 0] := (by decide +kernel : ∀ t : Fin grid0.N, _)
/-- At point `t`, the window of the psychological network's second layer, whole. -/
theorem at10 : ∀ t : Fin cfg0.N, win0_10.index t = ![0, 0] := (by decide +kernel : ∀ t : Fin grid0.N, _)
/-- At point `t`, the window of the psychological network's bias, whole. -/
theorem at11 : ∀ t : Fin cfg0.N, win0_11.index t = ![0, 0] := (by decide +kernel : ∀ t : Fin grid0.N, _)
/-- At point `t`, the window of the coefficients' network's first layer, whole. -/
theorem at12 : ∀ t : Fin cfg0.N, win0_12.index t = ![0, 0] := (by decide +kernel : ∀ t : Fin grid0.N, _)
/-- At point `t`, the window of the coefficients' network's second layer, whole. -/
theorem at13 : ∀ t : Fin cfg0.N, win0_13.index t = ![0, 0] := (by decide +kernel : ∀ t : Fin grid0.N, _)
/-- At point `t`, the window of the coefficients' network's bias, whole. -/
theorem at14 : ∀ t : Fin cfg0.N, win0_14.index t = ![0, 0] := (by decide +kernel : ∀ t : Fin grid0.N, _)
/-- At point `t`, the window of the result: columns' block `t`. -/
theorem at15 : ∀ t : Fin cfg0.N, win0_15.index t = ![0, 0, t.val] := (by decide +kernel : ∀ t : Fin grid0.N, _)

/-- The column of the batch that lane `l` of point `t` is. -/
theorem lane_lt (t : Fin cfg0.N) (l : Fin 1024) : t.val * 1024 + l.val < 16384 := by
  have h := t.isLt; have := l.isLt; have e : cfg0.N = 16 := N_0; omega

/-! What the host's reshapes and its transposition leave in the arrays the blocks are read from. -/

theorem entry_v0 (c : Dev nD) :
    V m c main_v0 = shapeCast S1x16384 (m ((c : Thread nD τ).loc main_arg0)) shapeCasts_S16384_S1x16384 := by
  show StableHlo.after (List.flatten [hostOps0]) (fun b => m (c, b)) _ = _
  simp only [hostOps0, List.flatten_cons, List.flatten_nil, List.append_nil, List.cons_append, List.nil_append]
  after_results_simp
  rfl

/-- On entry: the physical fatigue laid as a row. -/
theorem entry_v1 (c : Dev nD) :
    V m c main_v1 = shapeCast S1x16384 (m ((c : Thread nD τ).loc main_arg1)) shapeCasts_S16384x1_S1x16384 := by
  show StableHlo.after (List.flatten [hostOps0]) (fun b => m (c, b)) _ = _
  simp only [hostOps0, List.flatten_cons, List.flatten_nil, List.append_nil, List.cons_append, List.nil_append]
  after_results_simp
  rfl

/-- On entry: the psychological fatigue laid as a row. -/
theorem entry_v2 (c : Dev nD) :
    V m c main_v2 = shapeCast S1x16384 (m ((c : Thread nD τ).loc main_arg2)) shapeCasts_S16384x1_S1x16384 := by
  show StableHlo.after (List.flatten [hostOps0]) (fun b => m (c, b)) _ = _
  simp only [hostOps0, List.flatten_cons, List.flatten_nil, List.append_nil, List.cons_append, List.nil_append]
  after_results_simp
  rfl

/-- On entry: the physical network's bias laid as a row. -/
theorem entry_v4 (c : Dev nD) :
    V m c main_v4 = shapeCast S1x64 (m ((c : Thread nD τ).loc main_arg9)) shapeCasts_S64_S1x64 := by
  show StableHlo.after (List.flatten [hostOps0]) (fun b => m (c, b)) _ = _
  simp only [hostOps0, List.flatten_cons, List.flatten_nil, List.append_nil, List.cons_append, List.nil_append]
  after_results_simp
  rfl

/-- On entry: the psychological network's bias laid as a row. -/
theorem entry_v5 (c : Dev nD) :
    V m c main_v5 = shapeCast S1x64 (m ((c : Thread nD τ).loc main_arg13)) shapeCasts_S64_S1x64 := by
  show StableHlo.after (List.flatten [hostOps0]) (fun b => m (c, b)) _ = _
  simp only [hostOps0, List.flatten_cons, List.flatten_nil, List.append_nil, List.cons_append, List.nil_append]
  after_results_simp
  rfl

/-- On entry: the coefficients' network's bias laid as a row. -/
theorem entry_v6 (c : Dev nD) :
    V m c main_v6 = shapeCast S1x64 (m ((c : Thread nD τ).loc main_arg17)) shapeCasts_S64_S1x64 := by
  show StableHlo.after (List.flatten [hostOps0]) (fun b => m (c, b)) _ = _
  simp only [hostOps0, List.flatten_cons, List.flatten_nil, List.append_nil, List.cons_append, List.nil_append]
  after_results_simp
  rfl

/-- On entry: the coefficients transposed, the columns last. -/
theorem entry_v3 (c : Dev nD) : V m c main_v3
    = transpose S10x3x16384 [2, 1, 0] (m ((c : Thread nD τ).loc main_arg3)) transposes_S16384x3x10_S10x3x16384_2_1_0 := by
  show StableHlo.after (List.flatten [hostOps0]) (fun b => m (c, b)) _ = _
  simp only [hostOps0, List.flatten_cons, List.flatten_nil, List.append_nil, List.cons_append, List.nil_append]
  after_results_simp

/-- Lane `l` of point `t`, as a column of the batch. -/
abbrev lane (t : Fin cfg0.N) (l : Fin 1024) : Fin 16384 := ⟨t.val * 1024 + l.val, lane_lt t l⟩

/-- A vector of 16384 words laid as a row reads the vector. -/
theorem row_of_vector (x : Vec Ideal S16384 .i32) (h : S16384.ShapeCasts S1x16384) (b : Fin 16384) :
    shapeCast S1x16384 x h (ix2 (0 : Fin 1) b) = x (ix1 b) :=
  shapeCast_apply _ _ _ _ (by
    rw [Shape.rowMajor_val_one, Shape.rowMajor_val_two]
    show b.val = 0 * 16384 + b.val
    rw [Nat.zero_mul, Nat.zero_add])

/-- A column of 16384 numbers laid as a row reads the column. -/
theorem row_of_column (x : Vec Ideal S16384x1 .f32) (h : S16384x1.ShapeCasts S1x16384) (b : Fin 16384) :
    shapeCast S1x16384 x h (ix2 (0 : Fin 1) b) = x (ix2 b (0 : Fin 1)) :=
  shapeCast_apply _ _ _ _ (by
    rw [Shape.rowMajor_val_two, Shape.rowMajor_val_two]
    show b.val * 1 + 0 = 0 * 16384 + b.val
    rw [Nat.mul_one, Nat.zero_mul, Nat.zero_add, Nat.add_zero])

/-! The windows' blocks, at an index. -/

theorem blk0 (c : Dev nD) (t : Fin cfg0.N) (l : Fin 1024) :
    iblk m c 0 t (ix2 (0 : Fin 1) l) = m ((c : Thread nD τ).loc main_arg0) (ix1 (lane t l)) := by
  have e : (win0_0.blk t).view.emb (ix2 (0 : Fin 1) l) = ix2 (0 : Fin 1) (lane t l) := by blk_ext [at0 t]
  show V m c main_v0 ((win0_0.blk t).view.emb (ix2 (0 : Fin 1) l)) = _
  rw [e, entry_v0]
  exact row_of_vector _ _ _

/-- What the window holds at point `t`, of the physical fatigue: the block's own columns of the argument. -/
theorem blk1 (c : Dev nD) (t : Fin cfg0.N) (l : Fin 1024) :
    iblk m c 1 t (ix2 (0 : Fin 1) l) = m ((c : Thread nD τ).loc main_arg1) (ix2 (lane t l) (0 : Fin 1)) := by
  have e : (win0_1.blk t).view.emb (ix2 (0 : Fin 1) l) = ix2 (0 : Fin 1) (lane t l) := by blk_ext [at1 t]
  show V m c main_v1 ((win0_1.blk t).view.emb (ix2 (0 : Fin 1) l)) = _
  rw [e, entry_v1]
  exact row_of_column _ _ _

/-- What the window holds at point `t`, of the psychological fatigue: the block's own columns of the argument. -/
theorem blk2 (c : Dev nD) (t : Fin cfg0.N) (l : Fin 1024) :
    iblk m c 2 t (ix2 (0 : Fin 1) l) = m ((c : Thread nD τ).loc main_arg2) (ix2 (lane t l) (0 : Fin 1)) := by
  have e : (win0_2.blk t).view.emb (ix2 (0 : Fin 1) l) = ix2 (0 : Fin 1) (lane t l) := by blk_ext [at2 t]
  show V m c main_v2 ((win0_2.blk t).view.emb (ix2 (0 : Fin 1) l)) = _
  rw [e, entry_v2]
  exact row_of_column _ _ _

/-- What the window holds at point `t`, of the coefficients: the block's own columns of the argument. -/
theorem blk3 (c : Dev nD) (t : Fin cfg0.N) (a : Fin 10) (j : Fin 3) (l : Fin 1024) :
    iblk m c 3 t (ix3 a j l) = m ((c : Thread nD τ).loc main_arg3) (ix3 (lane t l) j a) := by
  have e : (win0_3.blk t).view.emb (ix3 a j l) = ix3 a j (lane t l) := by blk_ext [at3 t]
  show V m c main_v3 ((win0_3.blk t).view.emb (ix3 a j l)) = _
  rw [e, entry_v3]
  pointwise

/-- What the window holds at point `t`, of the physical network's bias: the whole argument. -/
theorem blk8 (c : Dev nD) (t : Fin cfg0.N) (h : Fin 64) :
    iblk m c 8 t (ix2 (0 : Fin 1) h) = m ((c : Thread nD τ).loc main_arg9) (ix1 h) := by
  have e : (win0_8.blk t).view.emb (ix2 (0 : Fin 1) h) = ix2 (0 : Fin 1) h := by blk_ext [at8 t]
  show V m c main_v4 ((win0_8.blk t).view.emb (ix2 (0 : Fin 1) h)) = _
  rw [e, entry_v4]
  pointwise

/-- What the window holds at point `t`, of the psychological network's bias: the whole argument. -/
theorem blk11 (c : Dev nD) (t : Fin cfg0.N) (h : Fin 64) :
    iblk m c 11 t (ix2 (0 : Fin 1) h) = m ((c : Thread nD τ).loc main_arg13) (ix1 h) := by
  have e : (win0_11.blk t).view.emb (ix2 (0 : Fin 1) h) = ix2 (0 : Fin 1) h := by blk_ext [at11 t]
  show V m c main_v5 ((win0_11.blk t).view.emb (ix2 (0 : Fin 1) h)) = _
  rw [e, entry_v5]
  pointwise

/-- What the window holds at point `t`, of the coefficients' network's bias: the whole argument. -/
theorem blk14 (c : Dev nD) (t : Fin cfg0.N) (h : Fin 64) :
    iblk m c 14 t (ix2 (0 : Fin 1) h) = m ((c : Thread nD τ).loc main_arg17) (ix1 h) := by
  have e : (win0_14.blk t).view.emb (ix2 (0 : Fin 1) h) = ix2 (0 : Fin 1) h := by blk_ext [at14 t]
  show V m c main_v6 ((win0_14.blk t).view.emb (ix2 (0 : Fin 1) h)) = _
  rw [e, entry_v6]
  pointwise

/-- What the window holds at point `t`, of the table of actions: the whole argument. -/
theorem blk4 (c : Dev nD) (t : Fin cfg0.N) : iblk m c 4 t = m ((c : Thread nD τ).loc main_arg4) := by
  blk_ext! [iblk, V, at4 t]

/-- What the window holds at point `t`, of the table of workers: the whole argument. -/
theorem blk5 (c : Dev nD) (t : Fin cfg0.N) : iblk m c 5 t = m ((c : Thread nD τ).loc main_arg5) := by
  blk_ext! [iblk, V, at5 t]

/-- What the window holds at point `t`, of the physical network's first layer: the whole argument. -/
theorem blk6 (c : Dev nD) (t : Fin cfg0.N) : iblk m c 6 t = m ((c : Thread nD τ).loc main_arg6) := by
  blk_ext! [iblk, V, at6 t]

/-- What the window holds at point `t`, of the physical network's second layer: the whole argument. -/
theorem blk7 (c : Dev nD) (t : Fin cfg0.N) : iblk m c 7 t = m ((c : Thread nD τ).loc main_arg8) := by
  blk_ext! [iblk, V, at7 t]

/-- What the window holds at point `t`, of the psychological network's first layer: the whole argument. -/
theorem blk9 (c : Dev nD) (t : Fin cfg0.N) : iblk m c 9 t = m ((c : Thread nD τ).loc main_arg10) := by
  blk_ext! [iblk, V, at9 t]

/-- What the window holds at point `t`, of the psychological network's second layer: the whole argument. -/
theorem blk10 (c : Dev nD) (t : Fin cfg0.N) : iblk m c 10 t = m ((c : Thread nD τ).loc main_arg12) := by
  blk_ext! [iblk, V, at10 t]

/-- What the window holds at point `t`, of the coefficients' network's first layer: the whole argument. -/
theorem blk12 (c : Dev nD) (t : Fin cfg0.N) : iblk m c 12 t = m ((c : Thread nD τ).loc main_arg14) := by
  blk_ext! [iblk, V, at12 t]

/-- What the window holds at point `t`, of the coefficients' network's second layer: the whole argument. -/
theorem blk13 (c : Dev nD) (t : Fin cfg0.N) : iblk m c 13 t = m ((c : Thread nD τ).loc main_arg16) := by
  blk_ext! [iblk, V, at13 t]

/-- The blocks of weights are the weights, at every point. -/
theorem weights_eq (c : Dev nD) (t : Fin cfg0.N) :
    Block.weights (iblk m c 4 t) (iblk m c 5 t) (iblk m c 6 t) (iblk m c 7 t) (iblk m c 8 t) (iblk m c 9 t) (iblk m c 10 t)
      (iblk m c 11 t) (iblk m c 12 t) (iblk m c 13 t) (iblk m c 14 t) = wts m c := by
  rw [blk4, blk5, blk6, blk7, blk9, blk10, blk12, blk13]
  have e8 : (fun h : Fin 64 => iblk m c 8 t (ix2 (0 : Fin 1) h)) = fun h => m ((c : Thread nD τ).loc main_arg9) (ix1 h) :=
    funext (blk8 m c t)
  have e11 : (fun h : Fin 64 => iblk m c 11 t (ix2 (0 : Fin 1) h)) = fun h => m ((c : Thread nD τ).loc main_arg13) (ix1 h) :=
    funext (blk11 m c t)
  have e14 : (fun h : Fin 64 => iblk m c 14 t (ix2 (0 : Fin 1) h)) = fun h => m ((c : Thread nD τ).loc main_arg17) (ix1 h) :=
    funext (blk14 m c t)
  unfold Block.weights wts Args.weights
  congr 1

/-- Lane `l` of point `t` is its column of the batch. -/
theorem column_eq (c : Dev nD) (t : Fin cfg0.N) (l : Fin 1024) :
    Block.column (iblk m c 0 t) (iblk m c 1 t) (iblk m c 2 t) (iblk m c 3 t) l = col m c (lane t l) := by
  have e3 : (fun (a : Fin 10) (j : Fin 3) => iblk m c 3 t (ix3 a j l))
      = fun a j => m ((c : Thread nD τ).loc main_arg3) (ix3 (lane t l) j a) := by
    funext a j; exact blk3 m c t a j l
  unfold Block.column col Args.column
  congr 1
  · exact blk0 m c t l
  · exact blk1 m c t l
  · exact blk2 m c t l

/-- The kernel's array after its last point. -/
theorem final (c : Dev nD) : (dats m 0 c).arrAt 15 cfg0.N = array m c := by
  refine (dats m 0 c).arrAt_eq_of_covers 15 _ (by decide +kernel) fun t hf y => ?_
  blk_simp
  rw [after0_15, out_eq, weights_eq]
  have h0 : ((win0_15.blk t).view.emb y 0).val = (y 0).val := by blk_simp [at15 t]
  have h1 : (win0_15.blk t).view.emb y 1 = y 1 := Fin.ext (by blk_simp [at15 t])
  have h2 : (win0_15.blk t).view.emb y 2 = lane t (y 2) := Fin.ext (by blk_simp [at15 t])
  unfold entries array
  rw [h0, h1, h2]
  exact congrArg (fun x => kernelEntry eight (wts m c) x (y 0).val (y 1)) (column_eq m c t (y 2))

end Cert.KernelIdeal.Region

end
-- ==== Proof.Result.lean ====
/-
  The kernel program's run: its result is the array of entries with the batch first, its arguments are unchanged.
-/
module

public import proofs.«01_k».proof.Proof.Region

@[expose] public section

noncomputable section

namespace Cert.KernelIdeal.Result

open Cert.KernelIdeal Cert.KernelIdeal.Gen Idealize.ShloMosaic Idealize.ShloMosaic.TcCoe Idealize.SL.Sem
open Cert.Entry Cert.KernelIdeal.Block Cert.KernelIdeal.Region

variable (m : (ℓ : Loc nD τ sig) → Buf (Elt Ideal) ℓ) (ρ : Dev nD → PrngReg)

/-- The program's result: by column of the batch, row, hidden coordinate. -/
def result (c : Dev nD) : Vec Ideal S16384x23x64 .f32 :=
  fun y => kernelEntry eight (wts m c) (col m c (y 0)) (y 1).val (y 2)

/-- The host's transposition of the kernel's array is the result. -/
theorem transpose_array (c : Dev nD) :
    transpose S16384x23x64 [2, 0, 1] (array m c) transposes_S23x64x16384_S16384x23x64_2_0_1 = result m c := by
  funext y
  pointwise
  rfl

/-- What the host's line after the kernel leaves in the result's buffer. -/
theorem tail (c : Dev nD) : Pipeline.afterTail₀ cfgs (dats m) 0 (V0 m) [hostOps1] c main_v8 = result m c := by
  show StableHlo.after (List.flatten [hostOps1]) _ _ = _
  simp only [hostOps1, List.flatten_cons, List.flatten_nil, List.append_nil, List.cons_append, List.nil_append]
  after_results_simp
  rw [← transpose_array, ← final]
  exact congrArg (fun x => transpose S16384x23x64 [2, 0, 1] x transposes_S23x64x16384_S16384x23x64_2_0_1)
    (Pipeline.withArrays_arr spec0 (by decide) c (V0 m c) (fun w => (dats m 0 c).arrAt w cfg0.N) 15)

/-- The run: the result's buffer ends at the result. -/
theorem run : θ_run defs (onTc (τ := τ) (main (F := Ideal))) ⟨m, fun _ => 0, ρ⟩ fun r => ∀ c : Dev nD,
    r.2.mem ((c : Thread nD τ).loc main_v8) = result m c :=
  (θ_run defs _ _).mono (fun _ h c =>
    ((h c).2 main_v8 (Pipeline.mem_restRefs_of main_v8 (by decide) (by decide))).trans (tail m c)) (run_main m ρ)

end Cert.KernelIdeal.Result

end
-- ==== Proof.Lookup.lean ====
/-
  The reference's two look-ups by a worker's index: a row of the table of workers, and a row of a column's coefficients.
  Both wrap a negative index, mask an index out of range, and read; on the indices 0, 1 and 2 they are the plain selection.
-/
module

public import proofs.«01_k».proof.Proof.Entry
public import proofs.«01_k».proof.Proof.Gen.ReferenceIdeal
public import Idealize.ShloMosaic.Lib.Pointwise
public import Idealize.ShloMosaic.Lib.ReduceAll
public import Idealize.ShloMosaic.Lib.Routing.Ops
public import Idealize.ShloMosaic.Lib.StableHlo.Predicate

@[expose] public section

noncomputable section

namespace Cert.ReferenceIdeal.Lookup

open Cert.ReferenceIdeal Cert.ReferenceIdeal.Gen Idealize.ShloMosaic Cert.Entry

/-- The three workers' indices. -/
def Worker (i : BitVec 32) : Prop := i = 0#32 ∨ i = 1#32 ∨ i = 2#32

/-- The number of a worker. -/
def number (i : BitVec 32) : Fin 3 := if i = 0#32 then 0 else if i = 1#32 then 1 else 2

/-- The selection reads the value at the worker's number. -/
theorem pick_eq {α : Type} (i : BitVec 32) (f : Fin 3 → α) : pick i f = f (number i) := by
  unfold pick number; split_ifs <;> rfl

/-- The number, as a word, is the index. -/
theorem Worker.word {i : BitVec 32} (h : Worker i) : i = BitVec.ofNat 32 (number i).val := by
  rcases h with rfl | rfl | rfl <;> decide

/-- A worker's index is not negative, so that it is not wrapped. -/
theorem Worker.wrap {i : BitVec 32} (h : Worker i) :
    (if IntOp.cmpi .slt i 0#32 = 1#1 then IntOp.addi i 3#32 else i) = i := by
  rcases h with rfl | rfl | rfl <;> decide

/-- A worker's index is between 0 and 2. -/
theorem Worker.inside {i : BitVec 32} (h : Worker i) :
    IntOp.andi (IntOp.cmpi .sge i 0#32) (IntOp.cmpi .sle i 2#32) = 1#1 := by
  rcases h with rfl | rfl | rfl <;> decide

/-! ## The table of workers -/

/-- The indices, wrapped, as a column. -/
def tableIdx (a0 : IVec S16384 32) : IVec S16384x1 32 :=
  broadcastInDim S16384x1 ![0] bcast_S16384_S16384x1_0
    (select (cmpi .slt a0 (broadcastInDim S16384 ![] bcast_S_S16384 (constantI S_ 32 0#32)))
      (addi a0 (broadcastInDim S16384 ![] bcast_S_S16384 (constantI S_ 32 3#32))) a0)

/-- Which indices lie in the table. -/
def tableMask (a0 : IVec S16384 32) : IVec S16384 1 :=
  Host.reduce IntOp.andi
    (andi (cmpi .sge (tableIdx a0) (broadcastInDim S16384x1 ![] bcast_S_S16384x1 (constantI S_ 32 0#32)))
      (cmpi .sle (tableIdx a0) (broadcastInDim S16384x1 ![0, 1] bcast_S1x1_S16384x1_0_1
        (broadcastInDim S1x1 ![1] bcast_S1_S1x1_1 (constantI S1 32 2#32)))))
    (constantI S_ 1 1#1) reducesTo_S16384x1_S16384_d1 h_S_

/-- The rows looked up. -/
def table (a0 : IVec S16384 32) (a5 : FVec Ideal S3x64 .f32) : FVec Ideal S16384x64 .f32 :=
  select (broadcastInDim S16384x64 ![0] bcast_S16384_S16384x64_0 (tableMask a0))
    (Host.gather gather_S3x64_S16384x1_S16384x64_1_0_n_n_0_1_164 a5 (tableIdx a0))
    (broadcastInDim S16384x64 ![] bcast_S_S16384x64 (constant S_ .f32 0x7FC00000#32))

/-- The wrapped index of a worker is the index. -/
theorem tableIdx_at {a0 : IVec S16384 32} (h : ∀ b, Worker (a0 b)) (b : Fin 16384) :
    tableIdx a0 (ix2 b 0) = a0 (ix1 b) := by
  pointwise [tableIdx]
  exact (h _).wrap

/-- Every worker's index lies in the table. -/
theorem tableMask_at {a0 : IVec S16384 32} (h : ∀ b, Worker (a0 b)) (j : S16384.Idx) : tableMask a0 j = 1#1 := by
  refine Host.reduce_andi_one _ _ _ _ j rfl fun i => ?_
  obtain ⟨b, z, rfl⟩ : ∃ b z, i = ix2 b z := ⟨_, _, eq_ix2 i⟩
  obtain rfl : z = 0 := Subsingleton.elim _ _
  have e := tableIdx_at h b
  pointwise
  rw [e]
  exact (h _).inside

/-- The row looked up is the worker's. -/
theorem table_at {a0 : IVec S16384 32} (h : ∀ b, Worker (a0 b)) (a5 : FVec Ideal S3x64 .f32) (b : Fin 16384) (y : Fin 64) :
    table a0 a5 (ix2 b y) = pick (a0 (ix1 b)) fun j => a5 (ix2 j y) := by
  have hm := tableMask_at h (ix1 b)
  have hg := Routing.gather_row gather_S3x64_S16384x1_S16384x64_1_0_n_n_0_1_164 rfl rfl rfl rfl rfl a5 (tableIdx a0) b y
    (number (a0 (ix1 b))) ((tableIdx_at h b).trans (h _).word) (by decide)
  pointwise [table]
  rw [hm, pick_eq]
  exact hg

end Cert.ReferenceIdeal.Lookup

end
-- ==== Proof.Coefficients.lean ====
/-
  The reference's look-up of a column's coefficients: for every column and every coefficient, the one of the column's worker.
-/
module

public import proofs.«01_k».proof.Proof.Lookup

@[expose] public section

noncomputable section

namespace Cert.ReferenceIdeal.Lookup

open Cert.ReferenceIdeal Cert.ReferenceIdeal.Gen Idealize.ShloMosaic Cert.Entry

/-- The indices, one for every column and coefficient, wrapped. -/
def coeWrap (a0 : IVec S16384 32) : IVec S16384x1x10 32 :=
  select (cmpi .slt
      (broadcastInDim S16384x1x10 ![0, 1, 2] bcast_S16384x1x1_S16384x1x10_0_1_2 (broadcastInDim S16384x1x1 ![0] bcast_S16384_S16384x1x1_0 a0))
      (broadcastInDim S16384x1x10 ![] bcast_S_S16384x1x10 (constantI S_ 32 0#32)))
    (addi
      (broadcastInDim S16384x1x10 ![0, 1, 2] bcast_S16384x1x1_S16384x1x10_0_1_2 (broadcastInDim S16384x1x1 ![0] bcast_S16384_S16384x1x1_0 a0))
      (broadcastInDim S16384x1x10 ![] bcast_S_S16384x1x10 (constantI S_ 32 3#32)))
    (broadcastInDim S16384x1x10 ![0, 1, 2] bcast_S16384x1x1_S16384x1x10_0_1_2 (broadcastInDim S16384x1x1 ![0] bcast_S16384_S16384x1x1_0 a0))

/-- The same indices, each an index vector of length one. -/
def coeIdx (a0 : IVec S16384 32) : IVec S16384x1x10x1 32 := shapeCast _ (coeWrap a0) shapeCasts_S16384x1x10_S16384x1x10x1

/-- Which indices lie among a column's workers. -/
def coeMask (a0 : IVec S16384 32) : IVec S16384x1x10 1 :=
  Host.reduce IntOp.andi
    (andi (cmpi .sge (coeIdx a0) (broadcastInDim S16384x1x10x1 ![] bcast_S_S16384x1x10x1 (constantI S_ 32 0#32)))
      (cmpi .sle (coeIdx a0) (broadcastInDim S16384x1x10x1 ![0, 1, 2, 3] bcast_S1x1x1x1_S16384x1x10x1_0_1_2_3
        (broadcastInDim S1x1x1x1 ![3] bcast_S1_S1x1x1x1_3 (constantI S1 32 2#32)))))
    (constantI S_ 1 1#1) reducesTo_S16384x1x10x1_S16384x1x10_d3 h_S_

/-- The coefficients looked up. -/
def coeRow (a0 : IVec S16384 32) (a3 : FVec Ideal S16384x3x10 .f32) : FVec Ideal S16384x1x10 .f32 :=
  select (coeMask a0)
    (Host.gather gather_S16384x3x10_S16384x1x10x1_S16384x1x10_n_1_02_02_1_3_111 a3 (coeIdx a0))
    (broadcastInDim S16384x1x10 ![] bcast_S_S16384x1x10 (constant S_ .f32 0x7FC00000#32))

/-- The coefficients looked up, by column and coefficient. -/
def coe (a0 : IVec S16384 32) (a3 : FVec Ideal S16384x3x10 .f32) : FVec Ideal S16384x10 .f32 :=
  shapeCast _ (coeRow a0 a3) shapeCasts_S16384x1x10_S16384x10

/-- The wrapped index of a worker is the index. -/
theorem coeIdx_at {a0 : IVec S16384 32} (h : ∀ b, Worker (a0 b)) (b : Fin 16384) (a : Fin 10) :
    coeIdx a0 (ix4 b 0 a 0) = a0 (ix1 b) := by
  have e : coeIdx a0 (ix4 b 0 a 0) = coeWrap a0 (ix3 b 0 a) := shapeCast_apply _ _ _ _ (by
    rw [Shape.rowMajor_val_three, Shape.rowMajor_val_four]
    show (b.val * 1 + 0) * 10 + a.val = ((b.val * 1 + 0) * 10 + a.val) * 1 + 0
    rw [Nat.mul_one (_ + a.val), Nat.add_zero (_ + a.val)])
  rw [e]
  pointwise [coeWrap]
  exact (h _).wrap

/-- Every worker's index lies among a column's workers. -/
theorem coeMask_at {a0 : IVec S16384 32} (h : ∀ b, Worker (a0 b)) (j : S16384x1x10.Idx) : coeMask a0 j = 1#1 := by
  refine Host.reduce_andi_one _ _ _ _ j rfl fun i => ?_
  obtain ⟨b, z, a, w, rfl⟩ : ∃ b z a w, i = ix4 b z a w := ⟨_, _, _, _, eq_ix4 i⟩
  obtain rfl : z = 0 := Subsingleton.elim _ _
  obtain rfl : w = 0 := Subsingleton.elim _ _
  have e := coeIdx_at h b a
  pointwise
  rw [e]
  exact (h _).inside

/-- The look-up's dimension numbers. -/
abbrev G := gather_S16384x3x10_S16384x1x10x1_S16384x1x10_n_1_02_02_1_3_111

/-- On a batching axis the gather reads at the result's own coordinate alone. -/
theorem on_batch (idx : IVec S16384x1x10x1 32) (y : S16384x1x10.Idx) (d : Fin 3) (hd : d ∈ G.operandBatchingDims) :
    G.start y idx d + G.batchCoord y d + G.offCoord y d = G.batchCoord y d := by
  rw [G.start_batching _ _ _ hd, G.offCoord_eq_zero _ _ fun h => ((G.mem_sKept _).mp h).2 hd, Nat.zero_add, Nat.add_zero]

/-- The batched gather at a column and a coefficient, its index a number `j` below 3: the column's coefficient of worker `j`. -/
theorem gather_coe (x : FVec Ideal S16384x3x10 .f32) (idx : IVec S16384x1x10x1 32) (b : Fin 16384) (a : Fin 10) (j : Fin 3)
    (hj : idx (ix4 b 0 a 0) = BitVec.ofNat 32 j.val) : Host.gather G x idx (ix3 b 0 a) = x (ix3 b j a) := by
  have h0 : (0 : Fin 3) ∈ G.operandBatchingDims := List.mem_cons_self
  have h2 : (2 : Fin 3) ∈ G.operandBatchingDims := List.mem_cons_of_mem _ List.mem_cons_self
  have h1 : (1 : Fin 3) ∈ G.startIndexMap := List.mem_singleton.mpr rfl
  have hn : (1 : Fin 3) ∉ G.operandBatchingDims := (by decide : (1 : Fin 3) ∉ ([0, 2] : List (Fin 3)))
  unfold Host.gather
  refine congrArg x (funext fun d => Fin.ext ?_)
  match d with
  | ⟨0, _⟩ =>
    refine (on_batch idx (ix3 b 0 a) 0 h0).trans ?_
    unfold GatherDims.batchCoord
    rw [dif_pos h0]
    rfl
  | ⟨1, _⟩ =>
    show G.start (ix3 b 0 a) idx (1 : Fin 3) + G.batchCoord (ix3 b 0 a) (1 : Fin 3) + G.offCoord (ix3 b 0 a) (1 : Fin 3) = j.val
    rw [G.batchCoord_eq_zero _ _ hn,
      G.offCoord_eq_zero _ _ (fun h => ((G.mem_sKept _).mp h).1 (List.mem_singleton.mpr rfl))]
    simp only [Nat.add_zero]
    unfold GatherDims.start
    rw [dif_pos h1]
    have hsi : G.siIdx (ix3 b 0 a) ⟨List.idxOf (1 : Fin 3) G.startIndexMap, List.idxOf_lt_length_iff.2 h1⟩ = ix4 b 0 a 0 := by
      funext e; refine Fin.ext ?_
      match e with
      | ⟨0, _⟩ => rfl
      | ⟨1, _⟩ => rfl
      | ⟨2, _⟩ => rfl
      | ⟨3, _⟩ => rfl
    have hl := j.isLt
    rw [hsi, hj, StableHlo.Predicate.toInt_ofNat_small _ (by omega)]
    show min (j.val : Int).toNat 2 = j.val
    omega
  | ⟨2, _⟩ =>
    refine (on_batch idx (ix3 b 0 a) 2 h2).trans ?_
    unfold GatherDims.batchCoord
    rw [dif_pos h2]
    rfl

/-- The coefficient looked up is the worker's. -/
theorem coe_at {a0 : IVec S16384 32} (h : ∀ b, Worker (a0 b)) (a3 : FVec Ideal S16384x3x10 .f32) (b : Fin 16384) (a : Fin 10) :
    coe a0 a3 (ix2 b a) = pick (a0 (ix1 b)) fun j => a3 (ix3 b j a) := by
  have e : coe a0 a3 (ix2 b a) = coeRow a0 a3 (ix3 b 0 a) := shapeCast_apply _ _ _ _ (by
    rw [Shape.rowMajor_val_three, Shape.rowMajor_val_two]
    show (b.val * 1 + 0) * 10 + a.val = b.val * 10 + a.val
    rw [Nat.mul_one, Nat.add_zero])
  have hm := coeMask_at h (ix3 b 0 a)
  have hg := gather_coe a3 (coeIdx a0) b a (number (a0 (ix1 b))) ((coeIdx_at h b a).trans (h _).word)
  rw [e]
  pointwise [coeRow]
  rw [hm, pick_eq]
  exact hg

end Cert.ReferenceIdeal.Lookup

end
-- ==== Proof.Reference.lean ====
/-
  The reference's result, entry by entry: the rows of its concatenation, scaled.
-/
module

public import proofs.«01_k».proof.Proof.Args
public import proofs.«01_k».proof.Proof.Coefficients
public import proofs.«01_k».proof.Proof.Gen.ReferenceIdeal.Run

@[expose] public section

noncomputable section

namespace Cert.ReferenceIdeal.Rows

open Cert.ReferenceIdeal Cert.ReferenceIdeal.Gen Idealize.ShloMosaic Idealize.ShloMosaic.TcCoe
open Cert.Entry Cert.Hinge Cert.ReferenceIdeal.Lookup

/-- The scale, as the program writes it. -/
abbrev scale : EReal := Ideal.ofBits .f32 0x41000000#32

/-- A network of one input per column: two layers with their biases, the rectifier between. -/
def dense (x : FVec Ideal S16384x1 .f32) (w : FVec Ideal S1x64 .f32) (d : FVec Ideal S64 .f32) (v : FVec Ideal S64x64 .f32)
    (e : FVec Ideal S64 .f32) : FVec Ideal S16384x64 .f32 :=
  addf (Host.dotGeneral dot_S16384x64_S64x64_S16384x64_1_0_0_1_n_n none
      (maximumf (addf (Host.dotGeneral dot_S16384x1_S1x64_S16384x64_1_0_0_1_n_n none x w)
          (broadcastInDim S16384x64 ![0, 1] bcast_S1x64_S16384x64_0_1 (broadcastInDim S1x64 ![1] bcast_S64_S1x64_1 d)))
        (broadcastInDim S16384x64 ![] bcast_S_S16384x64 (constant S_ .f32 0x00000000#32))) v)
    (broadcastInDim S16384x64 ![0, 1] bcast_S1x64_S16384x64_0_1 (broadcastInDim S1x64 ![1] bcast_S64_S1x64_1 e))

/-- A network of ten inputs per column, each alone. -/
def dense10 (x : FVec Ideal S16384x10 .f32) (w : FVec Ideal S1x64 .f32) (d : FVec Ideal S64 .f32) (v : FVec Ideal S64x64 .f32)
    (e : FVec Ideal S64 .f32) : FVec Ideal S16384x10x64 .f32 :=
  addf (Host.dotGeneral dot_S16384x10x64_S64x64_S16384x10x64_2_0_01_1_n_n none
      (maximumf (addf (Host.dotGeneral dot_S16384x10x1_S1x64_S16384x10x64_2_0_01_1_n_n none
            (broadcastInDim S16384x10x1 ![0, 1] bcast_S16384x10_S16384x10x1_0_1 x) w)
          (broadcastInDim S16384x10x64 ![0, 1, 2] bcast_S1x1x64_S16384x10x64_0_1_2 (broadcastInDim S1x1x64 ![2] bcast_S64_S1x1x64_2 d)))
        (broadcastInDim S16384x10x64 ![] bcast_S_S16384x10x64 (constant S_ .f32 0x00000000#32))) v)
    (broadcastInDim S16384x10x64 ![0, 1, 2] bcast_S1x1x64_S16384x10x64_0_1_2 (broadcastInDim S1x1x64 ![2] bcast_S64_S1x1x64_2 e))

/-- The five groups of rows laid one after another, scaled. -/
def joined (act : FVec Ideal S10x64 .f32) (phy psy wkr : FVec Ideal S16384x64 .f32) (cof : FVec Ideal S16384x10x64 .f32) :
    FVec Ideal S16384x23x64 .f32 :=
  mulf (concatenate S16384x23x64 1
      [⟨S16384x10x64, broadcastInDim S16384x10x64 ![0, 1, 2] bcast_S1x10x64_S16384x10x64_0_1_2
          (broadcastInDim S1x10x64 ![1, 2] bcast_S10x64_S1x10x64_1_2 act)⟩,
        ⟨S16384x1x64, broadcastInDim S16384x1x64 ![0, 2] bcast_S16384x64_S16384x1x64_0_2 phy⟩,
        ⟨S16384x1x64, broadcastInDim S16384x1x64 ![0, 2] bcast_S16384x64_S16384x1x64_0_2 psy⟩,
        ⟨S16384x1x64, broadcastInDim S16384x1x64 ![0, 2] bcast_S16384x64_S16384x1x64_0_2 wkr⟩,
        ⟨S16384x10x64, cof⟩]
      concatenates_S16384x10x64_S16384x1x64_S16384x1x64_S16384x1x64_S16384x10x64_S16384x23x64_d1)
    (broadcastInDim S16384x23x64 ![] bcast_S_S16384x23x64 (constant S_ .f32 0x41000000#32))

/-- With first-layer biases zero, the network of one input. -/
theorem dense_at (x : FVec Ideal S16384x1 .f32) (w : FVec Ideal S1x64 .f32) {d : FVec Ideal S64 .f32} (hd : ∀ k, d k = 0)
    (v : FVec Ideal S64x64 .f32) (e : FVec Ideal S64 .f32) (b : Fin 16384) (h : Fin 64) :
    dense x w d v e (ix2 b h)
      = network (x (ix2 b 0)) (fun k => w (ix2 0 k)) (fun k => v (ix2 k h)) (e (ix1 h)) := by
  pointwise [dense, network]
  simp only [hd, add_zero, Fin.sum_univ_one]

/-- With first-layer biases zero, the network of ten inputs. -/
theorem dense10_at (x : FVec Ideal S16384x10 .f32) (w : FVec Ideal S1x64 .f32) {d : FVec Ideal S64 .f32} (hd : ∀ k, d k = 0)
    (v : FVec Ideal S64x64 .f32) (e : FVec Ideal S64 .f32) (b : Fin 16384) (a : Fin 10) (h : Fin 64) :
    dense10 x w d v e (ix3 b a h)
      = network (x (ix2 b a)) (fun k => w (ix2 0 k)) (fun k => v (ix2 k h)) (e (ix1 h)) := by
  pointwise [dense10, network]
  simp only [hd, add_zero, Fin.sum_univ_one]

/-- A row of the joined groups. -/
theorem joined_at (act : FVec Ideal S10x64 .f32) (phy psy wkr : FVec Ideal S16384x64 .f32) (cof : FVec Ideal S16384x10x64 .f32)
    (b : Fin 16384) (r : Fin 23) (h : Fin 64) :
    joined act phy psy wkr cof (ix3 b r h)
      = (if r.val < 10 then act (ix2 (actOf r.val) h)
        else if r.val = 10 then phy (ix2 b h)
        else if r.val = 11 then psy (ix2 b h)
        else if r.val = 12 then wkr (ix2 b h)
        else cof (ix3 b (coeOf r.val) h)) * scale := by
  pointwise [joined]
  refine congrArg (· * scale) ?_
  have hr := r.isLt
  by_cases h1 : r.val < 10
  · rw [dif_pos h1, if_pos h1]
    exact congrArg (fun a => act (ix2 a h)) (Fin.ext (Nat.mod_eq_of_lt h1).symm)
  rw [dif_neg h1, if_neg h1]
  by_cases h2 : r.val = 10
  · rw [dif_pos (by omega), if_pos h2]
  rw [dif_neg (by omega), if_neg h2]
  by_cases h3 : r.val = 11
  · rw [dif_pos (by omega), if_pos h3]
  rw [dif_neg (by omega), if_neg h3]
  by_cases h4 : r.val = 12
  · rw [dif_pos (by omega), if_pos h4]
  rw [dif_neg (by omega), if_neg h4]
  exact congrArg (fun a => cof (ix3 b a h)) (Fin.ext (by
    show r.val - 10 - 1 - 1 - 1 = (r.val - 13) % 10
    omega))

variable (m : (ℓ : Loc nD τ sig) → Buf (Elt Ideal) ℓ) (c : Dev nD)

/-- The program's result is the joined rows: the actions, the two fatigues' networks, the workers looked up, the network of
    the coefficients looked up. -/
theorem result_eq : Value.res_main_v40 m c
    = joined (m ((c : Thread nD τ).loc main_arg4))
        (dense (m ((c : Thread nD τ).loc main_arg1)) (m ((c : Thread nD τ).loc main_arg6)) (m ((c : Thread nD τ).loc main_arg7))
          (m ((c : Thread nD τ).loc main_arg8)) (m ((c : Thread nD τ).loc main_arg9)))
        (dense (m ((c : Thread nD τ).loc main_arg2)) (m ((c : Thread nD τ).loc main_arg10)) (m ((c : Thread nD τ).loc main_arg11))
          (m ((c : Thread nD τ).loc main_arg12)) (m ((c : Thread nD τ).loc main_arg13)))
        (table (m ((c : Thread nD τ).loc main_arg0)) (m ((c : Thread nD τ).loc main_arg5)))
        (dense10 (coe (m ((c : Thread nD τ).loc main_arg0)) (m ((c : Thread nD τ).loc main_arg3)))
          (m ((c : Thread nD τ).loc main_arg14)) (m ((c : Thread nD τ).loc main_arg15)) (m ((c : Thread nD τ).loc main_arg16))
          (m ((c : Thread nD τ).loc main_arg17))) := rfl

/-- The entries of the joined rows, for any arguments: on workers' indices and with first-layer biases zero, the definition's. -/
theorem entry (a0 : IVec S16384 32) (a1 a2 : FVec Ideal S16384x1 .f32) (a3 : FVec Ideal S16384x3x10 .f32)
    (a4 : FVec Ideal S10x64 .f32) (a5 : FVec Ideal S3x64 .f32) (a6 a10 a14 : FVec Ideal S1x64 .f32)
    (a7 a9 a11 a13 a15 a17 : FVec Ideal S64 .f32) (a8 a12 a16 : FVec Ideal S64x64 .f32)
    (h0 : ∀ b, Worker (a0 b)) (h7 : ∀ k, a7 k = 0) (h11 : ∀ k, a11 k = 0) (h15 : ∀ k, a15 k = 0)
    (b : Fin 16384) (r : Fin 23) (h : Fin 64) :
    joined a4 (dense a1 a6 a7 a8 a9) (dense a2 a10 a11 a12 a13) (table a0 a5) (dense10 (coe a0 a3) a14 a15 a16 a17) (ix3 b r h)
      = refEntry scale (Args.weights a4 a5 a6 a8 a9 a10 a12 a13 a14 a16 a17) (Args.column a0 a1 a2 a3 b) r.val h := by
  rw [joined_at, dense_at _ _ h7, dense_at _ _ h11, table_at h0, dense10_at _ _ h15, coe_at h0]
  rfl

end Cert.ReferenceIdeal.Rows

end
-- ==== Proof.Domain.lean ====
/-
  The precondition read back: workers' indices, finite inputs, first-layer biases zero.
-/
module

public import proofs.«01_k».proof.Pre_in_domain
public import proofs.«01_k».proof.Proof.Lookup
public import Idealize.ShloMosaic.PureOps.Ideal
public import Idealize.ShloMosaic.Lib.Pointwise

@[expose] public section

noncomputable section

namespace Cert.Domain

open Cert.Pre_in_domain Idealize.ShloMosaic Cert.ReferenceIdeal.Lookup

/-- The precondition's own side conditions. -/
theorem facts : Cert.Pre_in_domain.Facts where
  bcast_S_S16384 := by decide
  bcast_S_S16384x1 := by decide
  bcast_S_S16384x3x10 := by decide
  bcast_S_S64 := by decide

/-- A one-bit word of a truth value that is 1 is of the value true. -/
theorem of_ofBool {b : Bool} (h : BitVec.ofBool b = 1#1) : b = true := by
  cases b
  · exact absurd h (by decide)
  · rfl

/-- A word that is at least 0 and below 3, as signed numbers, is a worker's index. -/
theorem worker_of_test {i : BitVec 32} (h : IntOp.andi (IntOp.cmpi .sge i 0#32) (IntOp.cmpi .slt i 3#32) = 1#1) : Worker i := by
  rw [IntOp.andi_eq_one] at h
  obtain ⟨hl, hu⟩ := h
  have e0 : (0#32).sle i = true := of_ofBool hl
  have e3 : i.slt 3#32 = true := of_ofBool hu
  rw [BitVec.sle_eq_decide, decide_eq_true_eq] at e0
  rw [BitVec.slt_eq_decide, decide_eq_true_eq] at e3
  have z0 : (0#32).toInt = 0 := by decide
  have z3 : (3#32).toInt = 3 := by decide
  rw [z0] at e0
  rw [z3] at e3
  have hc : i.toInt = 0 ∨ i.toInt = 1 ∨ i.toInt = 2 := by omega
  rcases hc with hc | hc | hc
  · exact Or.inl (BitVec.eq_of_toInt_eq hc)
  · exact Or.inr (Or.inl (BitVec.eq_of_toInt_eq hc))
  · exact Or.inr (Or.inr (BitVec.eq_of_toInt_eq hc))

/-- A number whose absolute value is below the infinite one is finite. -/
theorem finite_of_test {x : EReal} (h : Ideal.cmp .olt (max x (-x)) (Ideal.ofBits .f32 0x7F800000#32) = 1#1) : x ≠ ⊥ ∧ x ≠ ⊤ := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  refine ⟨fun e => ?_, fun e => ?_⟩ <;> subst e <;> simp at hlt

/-- A number compared equal to the zero pattern is zero. -/
theorem zero_of_test {x : EReal} (h : Ideal.cmp .oeq x (Ideal.ofBits .f32 0x00000000#32) = 1#1) : x = 0 := by
  rw [Ideal.ofBits_zero_f32] at h
  by_contra hn
  simp [Ideal.cmp, hn] at h

/-- The scale is a real number that is not negative. -/
theorem scale_real : ∃ r : ℝ, 0 ≤ r ∧ Ideal.ofBits .f32 0x41000000#32 = (r : EReal) := by
  refine ⟨(8388608 : ℝ) * (2 : ℝ) ^ (-20 : ℤ), by positivity, ?_⟩
  simp [Ideal.ofBits, Ideal.ieee]

/-- The scale is not negative. -/
theorem scale_nonneg : (0 : EReal) ≤ Ideal.ofBits .f32 0x41000000#32 := by
  obtain ⟨r, h, e⟩ := scale_real
  rw [e]
  exact EReal.coe_nonneg.2 h

/-- The scale is finite. -/
theorem scale_ne_top : Ideal.ofBits .f32 0x41000000#32 ≠ (⊤ : EReal) := by
  obtain ⟨r, h, e⟩ := scale_real
  rw [e]
  exact EReal.coe_ne_top r

/-- What the precondition says of the arguments. -/
structure Holds (a0 : IVec S16384 32) (a1 a2 : FVec Ideal S16384x1 .f32) (a3 : FVec Ideal S16384x3x10 .f32)
    (a7 a11 a15 : FVec Ideal S64 .f32) : Prop where
  worker : ∀ b, Worker (a0 b)
  phy : ∀ j, a1 j ≠ ⊥ ∧ a1 j ≠ ⊤
  psy : ∀ j, a2 j ≠ ⊥ ∧ a2 j ≠ ⊤
  coe : ∀ j, a3 j ≠ ⊥ ∧ a3 j ≠ ⊤
  bias1 : ∀ k, a7 k = 0
  bias2 : ∀ k, a11 k = 0
  bias3 : ∀ k, a15 k = 0

/-- The precondition's seven arrays being all ones says it. -/
theorem holds [Cert.Pre_in_domain.Facts] (a0 : IVec S16384 32) (a1 a2 : FVec Ideal S16384x1 .f32) (a3 : FVec Ideal S16384x3x10 .f32)
    (a4 : FVec Ideal S10x64 .f32) (a5 : FVec Ideal S3x64 .f32) (a6 : FVec Ideal S1x64 .f32) (a7 : FVec Ideal S64 .f32)
    (a8 : FVec Ideal S64x64 .f32) (a9 : FVec Ideal S64 .f32) (a10 : FVec Ideal S1x64 .f32) (a11 : FVec Ideal S64 .f32)
    (a12 : FVec Ideal S64x64 .f32) (a13 : FVec Ideal S64 .f32) (a14 : FVec Ideal S1x64 .f32) (a15 : FVec Ideal S64 .f32)
    (a16 : FVec Ideal S64x64 .f32) (a17 : FVec Ideal S64 .f32)
    (h : Cert.Pre_in_domain.fn (F := Ideal) a0 a1 a2 a3 a4 a5 a6 a7 a8 a9 a10 a11 a12 a13 a14 a15 a16 a17
      = (fun _ => 1#1, fun _ => 1#1, fun _ => 1#1, fun _ => 1#1, fun _ => 1#1, fun _ => 1#1, fun _ => 1#1)) :
    Holds a0 a1 a2 a3 a7 a11 a15 := by
  obtain ⟨h0, h1, h2, h3, h4, h5, h6⟩ : _ ∧ _ ∧ _ ∧ _ ∧ _ ∧ _ ∧ _ := by
    simpa only [Prod.mk.injEq, Cert.Pre_in_domain.fn, Cert.Pre_in_domain.fn_part1] using h
  exact {
    worker := fun b => worker_of_test (congrFun h0 b)
    phy := fun j => finite_of_test (congrFun h1 j)
    psy := fun j => finite_of_test (congrFun h2 j)
    coe := fun j => finite_of_test (congrFun h3 j)
    bias1 := fun k => zero_of_test (congrFun h4 k)
    bias2 := fun k => zero_of_test (congrFun h5 k)
    bias3 := fun k => zero_of_test (congrFun h6 k) }

end Cert.Domain

end
-- ==== Proof.Agree.lean ====
/-
  The two programs' results agree: under the precondition, from memories agreeing on the arguments.
-/
module

public import proofs.«01_k».proof.Defs
public import proofs.«01_k».proof.Proof.Result
public import proofs.«01_k».proof.Proof.Reference
public import proofs.«01_k».proof.Proof.Domain
public import Idealize.ShloMosaic.Lib.Quiescent

@[expose] public section

noncomputable section

namespace Cert.Agree

open Idealize.ShloMosaic Idealize.ShloMosaic.TcCoe Idealize.SL.Sem
open Cert.Entry Cert.KernelIdeal.Block Cert.KernelIdeal.Region

variable (m : (ℓ : Loc Cert.KernelIdeal.nD Cert.KernelIdeal.τ Cert.KernelIdeal.sig) → Buf (Elt Ideal) ℓ)

/-- The precondition at a device, as facts of its arguments. -/
theorem holds_at [Cert.Pre_in_domain.Facts] (h : Cert.Pre_KernelIdeal_in_domain m) (c : Dev Cert.KernelIdeal.nD) :
    Domain.Holds (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg7))
      (m ((c : Thread Cert.KernelIdeal.nD Cert.KernelIdeal.τ).loc Cert.KernelIdeal.main_arg11))
      (m ((c : Thread Cert.KernelIdeal.nD Cert.KernelIdeal.τ).loc Cert.KernelIdeal.main_arg15)) := by
  obtain ⟨h0, h1, h2, h3, h4, h5, h6⟩ := h c
  exact Domain.holds _ _ _ _ _ _ _ _ _ _ _ _ _ _ _ _ _ _
    (Prod.ext h0 (Prod.ext h1 (Prod.ext h2 (Prod.ext h3 (Prod.ext h4 (Prod.ext h5 h6))))))

/-- Under the precondition the kernel's result has the reference's entries. -/
theorem result_at [Cert.Pre_in_domain.Facts] (h : Cert.Pre_KernelIdeal_in_domain m) (c : Dev Cert.KernelIdeal.nD)
    (b : Fin 16384) (r : Fin 23) (k : Fin 64) :
    Cert.KernelIdeal.Result.result m c (ix3 b r k) = refEntry eight (wts m c) (col m c b) r.val k := by
  have hp := holds_at m h c
  exact entry_eq Domain.scale_nonneg Domain.scale_ne_top _ ⟨hp.phy _, hp.psy _, fun _ _ => hp.coe _⟩ _ _

/-- From memories agreeing on the arguments the reference's result is the kernel's. -/
theorem results_agree [Cert.Pre_in_domain.Facts]
    (m' : (ℓ : Loc Cert.ReferenceIdeal.nD Cert.ReferenceIdeal.τ Cert.ReferenceIdeal.sig) → Buf (Elt Ideal) ℓ)
    (h : Cert.Pre_KernelIdeal_in_domain m) (c : Dev Cert.KernelIdeal.nD)
    (e : m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
          = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
          = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
          = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
          = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
          = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
          = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
          = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
          = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10)
          = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11)
          = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12)
          = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13)
          = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14)
          = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15)
          = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16)
          = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17)
          = m ((c.tc : Thread Cert.KernelIdeal.nD Cert.KernelIdeal.τ).loc Cert.KernelIdeal.main_arg17)) :
    Cert.ReferenceIdeal.Value.res_main_v40 m' c = Cert.KernelIdeal.Result.result m c := by
  obtain ⟨e0, e1, e2, e3, e4, e5, e6, e7, e8, e9, e10, e11, e12, e13, e14, e15, e16, e17⟩ := e
  have hp := holds_at m h c
  rw [Cert.ReferenceIdeal.Rows.result_eq, e0, e1, e2, e3, e4, e5, e6, e7, e8, e9, e10, e11, e12, e13, e14, e15, e16, e17]
  funext y
  obtain ⟨b, r, k, rfl⟩ : ∃ b r k, y = ix3 b r k := ⟨_, _, _, eq_ix3 y⟩
  exact (Cert.ReferenceIdeal.Rows.entry _ _ _ _ _ _ _ _ _ _ _ _ _ _ _ _ _ _ hp.worker hp.bias1 hp.bias2 hp.bias3 b r k).trans
    (result_at m h c b r k).symm

end Cert.Agree

end
-- ==== Proof.lean ====
/-
  The certificate: both forms of the kernel and the reference run and leave their arguments and every semaphore as they
  were; the kernel's idealization is its own text; and on the precondition's inputs its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The reference runs, leaves its arguments unchanged, and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0 :=
  (θ_run _ _ _).mono (fun r h => ⟨fun c => (h c).2, sem_eq_zero_of_no_sems (by decide) r.2⟩) (Cert.ReferenceIdeal.Value.run m g)

/-- On the precondition's inputs the two programs end with equal results, their arguments unchanged. -/
theorem algebraic : Cert.algebraic_KernelIdeal_ReferenceIdeal_pre_in_domain (hPre_in_domain := Cert.Domain.facts) := by
  letI := Cert.Domain.facts
  intro m g m' g' hpre hargs
  refine ⟨fun c => Cert.KernelIdeal.Result.result m c, ?_, ?_⟩
  · exact (θ_run _ _ _).mono (fun r h c => ⟨h.1 c, h.2 c⟩)
      (θ_run_and (Cert.KernelIdeal.Result.run m g) (Cert.KernelIdeal.Gen.unchanged m g))
  · exact (θ_run _ _ _).mono (fun r h c => ⟨(h c).1.trans (Cert.Agree.results_agree m m' hpre c (hargs c)), (h c).2⟩)
      (Cert.ReferenceIdeal.Value.run m' g')

/-- All the claims. -/
theorem claim : Cert.Claim :=
  ⟨Cert.Kernel.Gen.facts, Cert.KernelIdeal.Gen.facts, Cert.ReferenceIdeal.Gen.facts, Cert.Domain.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
